-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S98304x128 : Shape := ⟨2, ![98304, 128]⟩
abbrev S1800x72 : Shape := ⟨2, ![1800, 72]⟩
abbrev S2x900x3 : Shape := ⟨3, ![2, 900, 3]⟩
abbrev S256x256 : Shape := ⟨2, ![256, 256]⟩
abbrev S256 : Shape := ⟨1, ![256]⟩
abbrev S256x3 : Shape := ⟨2, ![256, 3]⟩
abbrev S_ : Shape := ⟨0, ![]⟩

class Facts : Prop where
  bcast_S_S1800x72 : S_.BroadcastsInDim S1800x72 (![] : Fin 0 → Fin S1800x72.rank)
  reducesTo_S1800x72_S_d0_1 : S1800x72.ReducesTo [0, 1] S_
  h_S_ : 0 < S_.numel

variable [Facts]

def fn {F : FTy → Type} [FloatOps F] (main_arg0 : FVec F S98304x128 .f32) (main_arg1 : FVec F S98304x128 .f32) (main_arg2 : IVec S1800x72 32) (main_arg3 : FVec F S1800x72 .f32) (main_arg4 : FVec F S2x900x3 .f32) (main_arg5 : FVec F S256x256 .f32) (main_arg6 : FVec F S256 .f32) (main_arg7 : FVec F S256x3 .f32) (main_arg8 : FVec F S256 .f32) (main_arg9 : FVec F S256x256 .f32) (main_arg10 : FVec F S256 .f32) : IVec S_ 1 :=
  let main_c : IVec S_ 32 := constantI S_ 32 0#32
  let main_v0 : IVec S1800x72 32 := broadcastInDim S1800x72 ![] bcast_S_S1800x72 main_c
  let main_v1 : IVec S1800x72 1 := cmpi .sge main_arg2 main_v0
  let main_c_0 : IVec S_ 32 := constantI S_ 32 98304#32
  let main_v2 : IVec S1800x72 32 := broadcastInDim S1800x72 ![] bcast_S_S1800x72 main_c_0
  let main_v3 : IVec S1800x72 1 := cmpi .slt main_arg2 main_v2
  let main_v4 : IVec S1800x72 1 := andi main_v1 main_v3
  let main_c_1 : IVec S_ 1 := constantI S_ 1 1#1
  let main_v5 : IVec S_ 1 := (fun x v => Host.reduce IntOp.andi x v reducesTo_S1800x72_S_d0_1 h_S_) main_v4 main_c_1
  main_v5
-- ==== Kernel.lean ====
abbrev S98304x128 : Shape := ⟨2, ![98304, 128]⟩
abbrev S1800x72 : Shape := ⟨2, ![1800, 72]⟩
abbrev S2x900x3 : Shape := ⟨3, ![2, 900, 3]⟩
abbrev S256x256 : Shape := ⟨2, ![256, 256]⟩
abbrev S256 : Shape := ⟨1, ![256]⟩
abbrev S256x3 : Shape := ⟨2, ![256, 3]⟩
abbrev S_ : Shape := ⟨0, ![]⟩
abbrev S24x72 : Shape := ⟨2, ![24, 72]⟩
abbrev S1824x72 : Shape := ⟨2, ![1824, 72]⟩
abbrev S32x57x72 : Shape := ⟨3, ![32, 57, 72]⟩
abbrev S32x64x128 : Shape := ⟨3, ![32, 64, 128]⟩
abbrev S32x64x2x128 : Shape := ⟨4, ![32, 64, 2, 128]⟩
abbrev S64x128 : Shape := ⟨2, ![64, 128]⟩
abbrev S72x128 : Shape := ⟨2, ![72, 128]⟩
abbrev S64x2x128 : Shape := ⟨3, ![64, 2, 128]⟩
abbrev S1x64x128 : Shape := ⟨3, ![1, 64, 128]⟩
abbrev S1x72 : Shape := ⟨2, ![1, 72]⟩
abbrev S72 : Shape := ⟨1, ![72]⟩
abbrev S16 : Shape := ⟨1, ![16]⟩
abbrev S1x16 : Shape := ⟨2, ![1, 16]⟩
abbrev S1 : Shape := ⟨1, ![1]⟩
abbrev S1x1x16 : Shape := ⟨3, ![1, 1, 16]⟩
abbrev S1x64x2x128 : Shape := ⟨4, ![1, 64, 2, 128]⟩
abbrev S32x64x256 : Shape := ⟨3, ![32, 64, 256]⟩
abbrev S32x57x256 : Shape := ⟨3, ![32, 57, 256]⟩
abbrev S1824x256 : Shape := ⟨2, ![1824, 256]⟩
abbrev S1800x256 : Shape := ⟨2, ![1800, 256]⟩
abbrev S2x900x256 : Shape := ⟨3, ![2, 900, 256]⟩
abbrev S1x1x256 : Shape := ⟨3, ![1, 1, 256]⟩
abbrev S3x256 : Shape := ⟨2, ![3, 256]⟩

abbrev nBuf : Table → Nat
  | .hbm => 71
  | .local .scVector .vmem => 7
  | _ => 0

abbrev bufTy : (tb : Table) → Fin (nBuf tb) → BufTy
  | .hbm, ⟨0, _⟩ => ⟨S98304x128, .f32⟩
  | .hbm, ⟨1, _⟩ => ⟨S98304x128, .f32⟩
  | .hbm, ⟨2, _⟩ => ⟨S1800x72, .i32⟩
  | .hbm, ⟨3, _⟩ => ⟨S1800x72, .f32⟩
  | .hbm, ⟨4, _⟩ => ⟨S2x900x3, .f32⟩
  | .hbm, ⟨5, _⟩ => ⟨S256x256, .f32⟩
  | .hbm, ⟨6, _⟩ => ⟨S256, .f32⟩
  | .hbm, ⟨7, _⟩ => ⟨S256x3, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .i32⟩
  | .hbm, ⟨12, _⟩ => ⟨S24x72, .i32⟩
  | .hbm, ⟨13, _⟩ => ⟨S1824x72, .i32⟩
  | .hbm, ⟨14, _⟩ => ⟨S_, .f32⟩
  | .hbm, ⟨15, _⟩ => ⟨S24x72, .f32⟩
  | .hbm, ⟨16, _⟩ => ⟨S1824x72, .f32⟩
  | .hbm, ⟨17, _⟩ => ⟨S32x57x72, .i32⟩
  | .hbm, ⟨18, _⟩ => ⟨S_, .i32⟩
  | .hbm, ⟨19, _⟩ => ⟨S_, .i32⟩
  | .hbm, ⟨20, _⟩ => ⟨S32x64x128, .i32⟩
  | .hbm, ⟨21, _⟩ => ⟨S32x57x72, .f32⟩
  | .hbm, ⟨22, _⟩ => ⟨S_, .i32⟩
  | .hbm, ⟨23, _⟩ => ⟨S_, .f32⟩
  | .hbm, ⟨24, _⟩ => ⟨S32x64x128, .f32⟩
  | .hbm, ⟨25, _⟩ => ⟨S32x64x2x128, .f32⟩
  | .hbm, ⟨26, _⟩ => ⟨S32x64x256, .f32⟩
  | .hbm, ⟨27, _⟩ => ⟨S32x57x256, .f32⟩
  | .hbm, ⟨28, _⟩ => ⟨S1824x256, .f32⟩
  | .hbm, ⟨29, _⟩ => ⟨S1800x256, .f32⟩
  | .hbm, ⟨30, _⟩ => ⟨S2x900x256, .f32⟩
  | .hbm, ⟨31, _⟩ => ⟨S256x256, .f32⟩
  | .hbm, ⟨32, _⟩ => ⟨S2x900x256, .f32⟩
  | .hbm, ⟨33, _⟩ => ⟨S1x1x256, .f32⟩
  | .hbm, ⟨34, _⟩ => ⟨S2x900x256, .f32⟩
  | .hbm, ⟨35, _⟩ => ⟨S2x900x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x900x3, .f32⟩
  | .hbm, ⟨40, _⟩ => ⟨S2x900x3, .f32⟩
  | .hbm, ⟨41, _⟩ => ⟨S_, .f32⟩
  | .hbm, ⟨42, _⟩ => ⟨S2x900x3, .f32⟩
  | .hbm, ⟨43, _⟩ => ⟨S2x900x3, .f32⟩
  | .hbm, ⟨44, _⟩ => ⟨S_, .f32⟩
  | .hbm, ⟨45, _⟩ => ⟨S_, .f32⟩
  | .hbm, ⟨46, _⟩ => ⟨S2x900x3, .f32⟩
  | .hbm, ⟨47, _⟩ => ⟨S2x900x3, .f32⟩
  | .hbm, ⟨48, _⟩ => ⟨S_, .f32⟩
  | .hbm, ⟨49, _⟩ => ⟨S2x900x3, .f32⟩
  | .hbm, ⟨50, _⟩ => ⟨S2x900x3, .f32⟩
  | .hbm, ⟨51, _⟩ => ⟨S_, .f32⟩
  | .hbm, ⟨52, _⟩ => ⟨S_, .f32⟩
  | .hbm, ⟨53, _⟩ => ⟨S2x900x3, .f32⟩
  | .hbm, ⟨54, _⟩ => ⟨S2x900x3, .f32⟩
  | .hbm, ⟨55, _⟩ => ⟨S2x900x3, .f32⟩
  | .hbm, ⟨56, _⟩ => ⟨S2x900x3, .f32⟩
  | .hbm, ⟨57, _⟩ => ⟨S3x256, .f32⟩
  | .hbm, ⟨58, _⟩ => ⟨S2x900x256, .f32⟩
  | .hbm, ⟨59, _⟩ => ⟨S1x1x256, .f32⟩
  | .hbm, ⟨60, _⟩ => ⟨S2x900x256, .f32⟩
  | .hbm, ⟨61, _⟩ => ⟨S2x900x256, .f32⟩
  | .hbm, ⟨62, _⟩ => ⟨S_, .f32⟩
  | .hbm, ⟨63, _⟩ => ⟨S2x900x256, .f32⟩
  | .hbm, ⟨64, _⟩ => ⟨S2x900x256, .f32⟩
  | .hbm, ⟨65, _⟩ => ⟨S256x256, .f32⟩
  | .hbm, ⟨66, _⟩ => ⟨S2x900x256, .f32⟩
  | .hbm, ⟨67, _⟩ => ⟨S1x1x256, .f32⟩
  | .hbm, ⟨68, _⟩ => ⟨S2x900x256, .f32⟩
  | .hbm, ⟨69, _⟩ => ⟨S2x900x256, .f32⟩
  | .hbm, ⟨70, _⟩ => ⟨S2x900x256, .f32⟩
  | .local .scVector .vmem, ⟨0, _⟩ => ⟨S64x128, .i32⟩
  | .local .scVector .vmem, ⟨1, _⟩ => ⟨S64x128, .f32⟩
  | .local .scVector .vmem, ⟨2, _⟩ => ⟨S72x128, .f32⟩
  | .local .scVector .vmem, ⟨3, _⟩ => ⟨S72x128, .f32⟩
  | .local .scVector .vmem, ⟨4, _⟩ => ⟨S72x128, .f32⟩
  | .local .scVector .vmem, ⟨5, _⟩ => ⟨S72x128, .f32⟩
  | .local .scVector .vmem, ⟨6, _⟩ => ⟨S64x2x128, .f32⟩
  | _, _ => ⟨S98304x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v19 : Ref sig .tc := ⟨.hbm, 43, rfl⟩
abbrev main_cst_4 : Ref sig .tc := ⟨.hbm, 44, rfl⟩
abbrev main_call3_v0 : Ref sig .tc := ⟨.hbm, 45, rfl⟩
abbrev main_call3_v1 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_call4_v0 : Ref sig .tc := ⟨.hbm, 52, rfl⟩
abbrev main_call4_v1 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call5_cst : Ref sig .tc := ⟨.hbm, 62, rfl⟩
abbrev main_call5_v0 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_arg0_scv : Ref sig .scVector := ⟨.hbm, 0, rfl⟩
abbrev main_arg1_scv : Ref sig .scVector := ⟨.hbm, 1, rfl⟩
abbrev main_v5_scv : Ref sig .scVector := ⟨.hbm, 20, rfl⟩
abbrev main_v7_scv : Ref sig .scVector := ⟨.hbm, 24, rfl⟩
abbrev main_v8_scv : Ref sig .scVector := ⟨.hbm, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_325_r0 : BitVec 32 := 0#32
  let c0_i32_326_r0 : BitVec 32 := 0#32
  ![v1.toNat, 0, 0]
@[reducible] def k0_t1_loop : Scf.Loop 32 :=
  let c0_i32_16 : BitVec 32 := 0#32
  let c28_i32 : BitVec 32 := 28#32
  let v14 : BitVec 32 := Scalar.addi c0_i32_16 c28_i32
  let c1_i32 : BitVec 32 := 1#32
  ⟨c0_i32_16, v14, c1_i32⟩
def k0_off2 (k0_t1 : Fin k0_t1_loop.trips) (c1_i32_326 : BitVec 32) : Fin 2 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v901 : BitVec 32 := Scalar.addi v900 c1_i32_326
  let c0_i32_327 : BitVec 32 := 0#32
  ![v901.toNat, 0]
@[reducible] def k0_t2_loop : Scf.Loop 32 :=
  let c0_i32_349 : BitVec 32 := 0#32
  let c4_i32_350 : BitVec 32 := 4#32
  let v924 : BitVec 32 := Scalar.addi c0_i32_349 c4_i32_350
  let c1_i32_351 : BitVec 32 := 1#32
  ⟨c0_i32_349, v924, c1_i32_351⟩
def k0_off3 (k0_t1 : Fin k0_t1_loop.trips) (k0_t2 : Fin k0_t2_loop.trips) : Fin 2 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v2699 : Index := Scalar.indexCast v900
  let c0_i32_349 : BitVec 32 := 0#32
  let c1_i32_351 : BitVec 32 := 1#32
  let arg19 : BitVec 32 := Scf.iv c0_i32_349 c1_i32_351 k0_t2
  let c16_i32 : BitVec 32 := 16#32
  let v2698 : BitVec 32 := Scalar.muli arg19 c16_i32
  let v2700 : Index := Scalar.indexCast v2698
  ![v2699.toNat, v2700.toNat]
def k0_off4 (k0_t2 : Fin k0_t2_loop.trips) (c0_i32_972 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2706 : BitVec 32 := Scalar.addi v2703 c0_i32_972
  let v2707 : Index := Scalar.indexCast v2706
  let c0_973 : Index := 0#32
  ![v2707.toNat, 0]
def k0_off5 (k0_t2 : Fin k0_t2_loop.trips) (c0_i32_974 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2713 : BitVec 32 := Scalar.addi v2703 c0_i32_974
  let v2714 : Index := Scalar.indexCast v2713
  let c16_975 : Index := 16#32
  ![v2714.toNat, 16]
def k0_off6 (k0_t2 : Fin k0_t2_loop.trips) (c0_i32_976 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2720 : BitVec 32 := Scalar.addi v2703 c0_i32_976
  let v2721 : Index := Scalar.indexCast v2720
  let c32_977 : Index := 32#32
  ![v2721.toNat, 32]
def k0_off7 (k0_t2 : Fin k0_t2_loop.trips) (c0_i32_978 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2727 : BitVec 32 := Scalar.addi v2703 c0_i32_978
  let v2728 : Index := Scalar.indexCast v2727
  let c48_979 : Index := 48#32
  ![v2728.toNat, 48]
def k0_off8 (k0_t2 : Fin k0_t2_loop.trips) (c0_i32_980 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2734 : BitVec 32 := Scalar.addi v2703 c0_i32_980
  let v2735 : Index := Scalar.indexCast v2734
  let c64_981 : Index := 64#32
  ![v2735.toNat, 64]
def k0_off9 (k0_t2 : Fin k0_t2_loop.trips) (c0_i32_982 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2741 : BitVec 32 := Scalar.addi v2703 c0_i32_982
  let v2742 : Index := Scalar.indexCast v2741
  let c80_983 : Index := 80#32
  ![v2742.toNat, 80]
def k0_off10 (k0_t2 : Fin k0_t2_loop.trips) (c0_i32_984 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2748 : BitVec 32 := Scalar.addi v2703 c0_i32_984
  let v2749 : Index := Scalar.indexCast v2748
  let c96_985 : Index := 96#32
  ![v2749.toNat, 96]
def k0_off11 (k0_t2 : Fin k0_t2_loop.trips) (c0_i32_986 : BitVec 32) : Fin 2 → Nat :=
  let c0_i32_349 : BitVec 32 := 0#32
  let c1_i32_351 : BitVec 32 := 1#32
  let arg19 : BitVec 32 := Scf.iv c0_i32_349 c1_i32_351 k0_t2
  let c16_i32_971 : BitVec 32 := 16#32
  let v2703 : BitVec 32 := Scalar.muli arg19 c16_i32_971
  let v2755 : BitVec 32 := Scalar.addi v2703 c0_i32_986
  let v2756 : Index := Scalar.indexCast v2755
  let c112_987 : Index := 112#32
  ![v2756.toNat, 112]
def k0_off12 (k0_t1 : Fin k0_t1_loop.trips) : Fin 2 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v926 : Index := Scalar.indexCast v900
  let c64_353 : Index := 64#32
  ![v926.toNat, 64]
def k0_off13 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1713 : Index := Scalar.indexCast v900
  let c0_i32_610 : BitVec 32 := 0#32
  let v1714 : Index := Scalar.indexCast c0_i32_610
  let c0_611 : Index := 0#32
  ![v1713.toNat, 0, 0]
def k0_off14 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1718 : Index := Scalar.indexCast v900
  let c0_i32_612 : BitVec 32 := 0#32
  let v1719 : Index := Scalar.indexCast c0_i32_612
  let c16_613 : Index := 16#32
  ![v1718.toNat, 0, 16]
def k0_off15 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1723 : Index := Scalar.indexCast v900
  let c0_i32_614 : BitVec 32 := 0#32
  let v1724 : Index := Scalar.indexCast c0_i32_614
  let c32_615 : Index := 32#32
  ![v1723.toNat, 0, 32]
def k0_off16 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1728 : Index := Scalar.indexCast v900
  let c0_i32_616 : BitVec 32 := 0#32
  let v1729 : Index := Scalar.indexCast c0_i32_616
  let c48_617 : Index := 48#32
  ![v1728.toNat, 0, 48]
def k0_off17 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1733 : Index := Scalar.indexCast v900
  let c0_i32_618 : BitVec 32 := 0#32
  let v1734 : Index := Scalar.indexCast c0_i32_618
  let c64_619 : Index := 64#32
  ![v1733.toNat, 0, 64]
def k0_off18 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1738 : Index := Scalar.indexCast v900
  let c0_i32_620 : BitVec 32 := 0#32
  let v1739 : Index := Scalar.indexCast c0_i32_620
  let c80_621 : Index := 80#32
  ![v1738.toNat, 0, 80]
def k0_off19 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1743 : Index := Scalar.indexCast v900
  let c0_i32_622 : BitVec 32 := 0#32
  let v1744 : Index := Scalar.indexCast c0_i32_622
  let c96_623 : Index := 96#32
  ![v1743.toNat, 0, 96]
def k0_off20 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1748 : Index := Scalar.indexCast v900
  let c0_i32_624 : BitVec 32 := 0#32
  let v1749 : Index := Scalar.indexCast c0_i32_624
  let c112_625 : Index := 112#32
  ![v1748.toNat, 0, 112]
def k0_off21 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1753 : Index := Scalar.indexCast v900
  let c1_i32_626 : BitVec 32 := 1#32
  let v1754 : Index := Scalar.indexCast c1_i32_626
  let c0_627 : Index := 0#32
  ![v1753.toNat, 1, 0]
def k0_off22 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1758 : Index := Scalar.indexCast v900
  let c1_i32_628 : BitVec 32 := 1#32
  let v1759 : Index := Scalar.indexCast c1_i32_628
  let c16_629 : Index := 16#32
  ![v1758.toNat, 1, 16]
def k0_off23 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1763 : Index := Scalar.indexCast v900
  let c1_i32_630 : BitVec 32 := 1#32
  let v1764 : Index := Scalar.indexCast c1_i32_630
  let c32_631 : Index := 32#32
  ![v1763.toNat, 1, 32]
def k0_off24 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1768 : Index := Scalar.indexCast v900
  let c1_i32_632 : BitVec 32 := 1#32
  let v1769 : Index := Scalar.indexCast c1_i32_632
  let c48_633 : Index := 48#32
  ![v1768.toNat, 1, 48]
def k0_off25 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1773 : Index := Scalar.indexCast v900
  let c1_i32_634 : BitVec 32 := 1#32
  let v1774 : Index := Scalar.indexCast c1_i32_634
  let c64_635 : Index := 64#32
  ![v1773.toNat, 1, 64]
def k0_off26 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1778 : Index := Scalar.indexCast v900
  let c1_i32_636 : BitVec 32 := 1#32
  let v1779 : Index := Scalar.indexCast c1_i32_636
  let c80_637 : Index := 80#32
  ![v1778.toNat, 1, 80]
def k0_off27 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1783 : Index := Scalar.indexCast v900
  let c1_i32_638 : BitVec 32 := 1#32
  let v1784 : Index := Scalar.indexCast c1_i32_638
  let c96_639 : Index := 96#32
  ![v1783.toNat, 1, 96]
def k0_off28 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let v1788 : Index := Scalar.indexCast v900
  let c1_i32_640 : BitVec 32 := 1#32
  let v1789 : Index := Scalar.indexCast c1_i32_640
  let c112_641 : Index := 112#32
  ![v1788.toNat, 1, 112]
@[reducible] def k0_t3_loop : Scf.Loop 32 :=
  let c0_i32_672 : BitVec 32 := 0#32
  let c4_i32_673 : BitVec 32 := 4#32
  let v1823 : BitVec 32 := Scalar.addi c0_i32_672 c4_i32_673
  let c1_i32_674 : BitVec 32 := 1#32
  ⟨c0_i32_672, v1823, c1_i32_674⟩
def k0_off29 (k0_t1 : Fin k0_t1_loop.trips) (k0_t3 : Fin k0_t3_loop.trips) : Fin 2 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2699 : Index := Scalar.indexCast v1806
  let c0_i32_672 : BitVec 32 := 0#32
  let c1_i32_674 : BitVec 32 := 1#32
  let arg19 : BitVec 32 := Scf.iv c0_i32_672 c1_i32_674 k0_t3
  let c16_i32 : BitVec 32 := 16#32
  let v2698 : BitVec 32 := Scalar.muli arg19 c16_i32
  let v2700 : Index := Scalar.indexCast v2698
  ![v2699.toNat, v2700.toNat]
def k0_off30 (k0_t3 : Fin k0_t3_loop.trips) (c0_i32_972 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2706 : BitVec 32 := Scalar.addi v2703 c0_i32_972
  let v2707 : Index := Scalar.indexCast v2706
  let c0_973 : Index := 0#32
  ![v2707.toNat, 0]
def k0_off31 (k0_t3 : Fin k0_t3_loop.trips) (c0_i32_974 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2713 : BitVec 32 := Scalar.addi v2703 c0_i32_974
  let v2714 : Index := Scalar.indexCast v2713
  let c16_975 : Index := 16#32
  ![v2714.toNat, 16]
def k0_off32 (k0_t3 : Fin k0_t3_loop.trips) (c0_i32_976 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2720 : BitVec 32 := Scalar.addi v2703 c0_i32_976
  let v2721 : Index := Scalar.indexCast v2720
  let c32_977 : Index := 32#32
  ![v2721.toNat, 32]
def k0_off33 (k0_t3 : Fin k0_t3_loop.trips) (c0_i32_978 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2727 : BitVec 32 := Scalar.addi v2703 c0_i32_978
  let v2728 : Index := Scalar.indexCast v2727
  let c48_979 : Index := 48#32
  ![v2728.toNat, 48]
def k0_off34 (k0_t3 : Fin k0_t3_loop.trips) (c0_i32_980 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2734 : BitVec 32 := Scalar.addi v2703 c0_i32_980
  let v2735 : Index := Scalar.indexCast v2734
  let c64_981 : Index := 64#32
  ![v2735.toNat, 64]
def k0_off35 (k0_t3 : Fin k0_t3_loop.trips) (c0_i32_982 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2741 : BitVec 32 := Scalar.addi v2703 c0_i32_982
  let v2742 : Index := Scalar.indexCast v2741
  let c80_983 : Index := 80#32
  ![v2742.toNat, 80]
def k0_off36 (k0_t3 : Fin k0_t3_loop.trips) (c0_i32_984 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2748 : BitVec 32 := Scalar.addi v2703 c0_i32_984
  let v2749 : Index := Scalar.indexCast v2748
  let c96_985 : Index := 96#32
  ![v2749.toNat, 96]
def k0_off37 (k0_t3 : Fin k0_t3_loop.trips) (c0_i32_986 : BitVec 32) : Fin 2 → Nat :=
  let c0_i32_672 : BitVec 32 := 0#32
  let c1_i32_674 : BitVec 32 := 1#32
  let arg19 : BitVec 32 := Scf.iv c0_i32_672 c1_i32_674 k0_t3
  let c16_i32_971 : BitVec 32 := 16#32
  let v2703 : BitVec 32 := Scalar.muli arg19 c16_i32_971
  let v2755 : BitVec 32 := Scalar.addi v2703 c0_i32_986
  let v2756 : Index := Scalar.indexCast v2755
  let c112_987 : Index := 112#32
  ![v2756.toNat, 112]
def k0_off38 (k0_t1 : Fin k0_t1_loop.trips) : Fin 2 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v1825 : Index := Scalar.indexCast v1806
  let c64_676 : Index := 64#32
  ![v1825.toNat, 64]
def k0_off39 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2612 : Index := Scalar.indexCast v1806
  let c0_i32_933 : BitVec 32 := 0#32
  let v2613 : Index := Scalar.indexCast c0_i32_933
  let c0_934 : Index := 0#32
  ![v2612.toNat, 0, 0]
def k0_off40 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2617 : Index := Scalar.indexCast v1806
  let c0_i32_935 : BitVec 32 := 0#32
  let v2618 : Index := Scalar.indexCast c0_i32_935
  let c16_936 : Index := 16#32
  ![v2617.toNat, 0, 16]
def k0_off41 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2622 : Index := Scalar.indexCast v1806
  let c0_i32_937 : BitVec 32 := 0#32
  let v2623 : Index := Scalar.indexCast c0_i32_937
  let c32_938 : Index := 32#32
  ![v2622.toNat, 0, 32]
def k0_off42 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2627 : Index := Scalar.indexCast v1806
  let c0_i32_939 : BitVec 32 := 0#32
  let v2628 : Index := Scalar.indexCast c0_i32_939
  let c48_940 : Index := 48#32
  ![v2627.toNat, 0, 48]
def k0_off43 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2632 : Index := Scalar.indexCast v1806
  let c0_i32_941 : BitVec 32 := 0#32
  let v2633 : Index := Scalar.indexCast c0_i32_941
  let c64_942 : Index := 64#32
  ![v2632.toNat, 0, 64]
def k0_off44 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2637 : Index := Scalar.indexCast v1806
  let c0_i32_943 : BitVec 32 := 0#32
  let v2638 : Index := Scalar.indexCast c0_i32_943
  let c80_944 : Index := 80#32
  ![v2637.toNat, 0, 80]
def k0_off45 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2642 : Index := Scalar.indexCast v1806
  let c0_i32_945 : BitVec 32 := 0#32
  let v2643 : Index := Scalar.indexCast c0_i32_945
  let c96_946 : Index := 96#32
  ![v2642.toNat, 0, 96]
def k0_off46 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2647 : Index := Scalar.indexCast v1806
  let c0_i32_947 : BitVec 32 := 0#32
  let v2648 : Index := Scalar.indexCast c0_i32_947
  let c112_948 : Index := 112#32
  ![v2647.toNat, 0, 112]
def k0_off47 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2652 : Index := Scalar.indexCast v1806
  let c1_i32_949 : BitVec 32 := 1#32
  let v2653 : Index := Scalar.indexCast c1_i32_949
  let c0_950 : Index := 0#32
  ![v2652.toNat, 1, 0]
def k0_off48 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2657 : Index := Scalar.indexCast v1806
  let c1_i32_951 : BitVec 32 := 1#32
  let v2658 : Index := Scalar.indexCast c1_i32_951
  let c16_952 : Index := 16#32
  ![v2657.toNat, 1, 16]
def k0_off49 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2662 : Index := Scalar.indexCast v1806
  let c1_i32_953 : BitVec 32 := 1#32
  let v2663 : Index := Scalar.indexCast c1_i32_953
  let c32_954 : Index := 32#32
  ![v2662.toNat, 1, 32]
def k0_off50 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2667 : Index := Scalar.indexCast v1806
  let c1_i32_955 : BitVec 32 := 1#32
  let v2668 : Index := Scalar.indexCast c1_i32_955
  let c48_956 : Index := 48#32
  ![v2667.toNat, 1, 48]
def k0_off51 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2672 : Index := Scalar.indexCast v1806
  let c1_i32_957 : BitVec 32 := 1#32
  let v2673 : Index := Scalar.indexCast c1_i32_957
  let c64_958 : Index := 64#32
  ![v2672.toNat, 1, 64]
def k0_off52 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2677 : Index := Scalar.indexCast v1806
  let c1_i32_959 : BitVec 32 := 1#32
  let v2678 : Index := Scalar.indexCast c1_i32_959
  let c80_960 : Index := 80#32
  ![v2677.toNat, 1, 80]
def k0_off53 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2682 : Index := Scalar.indexCast v1806
  let c1_i32_961 : BitVec 32 := 1#32
  let v2683 : Index := Scalar.indexCast c1_i32_961
  let c96_962 : Index := 96#32
  ![v2682.toNat, 1, 96]
def k0_off54 (k0_t1 : Fin k0_t1_loop.trips) : Fin 3 → Nat :=
  let c2_i32_325 : BitVec 32 := 2#32
  let c0_i32_16 : BitVec 32 := 0#32
  let c1_i32 : BitVec 32 := 1#32
  let arg18 : BitVec 32 := Scf.iv c0_i32_16 c1_i32 k0_t1
  let v900 : BitVec 32 := Scalar.muli c2_i32_325 arg18
  let c1_i32_655 : BitVec 32 := 1#32
  let v1806 : BitVec 32 := Scalar.addi v900 c1_i32_655
  let v2687 : Index := Scalar.indexCast v1806
  let c1_i32_963 : BitVec 32 := 1#32
  let v2688 : Index := Scalar.indexCast c1_i32_963
  let c112_964 : Index := 112#32
  ![v2687.toNat, 1, 112]
@[reducible] def k0_t4_loop : Scf.Loop 32 :=
  let c0_i32_33 : BitVec 32 := 0#32
  let c4_i32 : BitVec 32 := 4#32
  let v31 : BitVec 32 := Scalar.addi c0_i32_33 c4_i32
  let c1_i32_34 : BitVec 32 := 1#32
  ⟨c0_i32_33, v31, c1_i32_34⟩
def k0_off55 (k0_t4 : Fin k0_t4_loop.trips) : Fin 2 → Nat :=
  let c56_i32_325 : BitVec 32 := 56#32
  let v901 : Index := Scalar.indexCast c56_i32_325
  let c0_i32_33 : BitVec 32 := 0#32
  let c1_i32_34 : BitVec 32 := 1#32
  let arg18 : BitVec 32 := Scf.iv c0_i32_33 c1_i32_34 k0_t4
  let c16_i32 : BitVec 32 := 16#32
  let v900 : BitVec 32 := Scalar.muli arg18 c16_i32
  let v902 : Index := Scalar.indexCast v900
  ![56, v902.toNat]
def k0_off56 (k0_t4 : Fin k0_t4_loop.trips) (c0_i32_327 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v908 : BitVec 32 := Scalar.addi v905 c0_i32_327
  let v909 : Index := Scalar.indexCast v908
  let c0_328 : Index := 0#32
  ![v909.toNat, 0]
def k0_off57 (k0_t4 : Fin k0_t4_loop.trips) (c0_i32_329 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v915 : BitVec 32 := Scalar.addi v905 c0_i32_329
  let v916 : Index := Scalar.indexCast v915
  let c16_330 : Index := 16#32
  ![v916.toNat, 16]
def k0_off58 (k0_t4 : Fin k0_t4_loop.trips) (c0_i32_331 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v922 : BitVec 32 := Scalar.addi v905 c0_i32_331
  let v923 : Index := Scalar.indexCast v922
  let c32_332 : Index := 32#32
  ![v923.toNat, 32]
def k0_off59 (k0_t4 : Fin k0_t4_loop.trips) (c0_i32_333 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v929 : BitVec 32 := Scalar.addi v905 c0_i32_333
  let v930 : Index := Scalar.indexCast v929
  let c48_334 : Index := 48#32
  ![v930.toNat, 48]
def k0_off60 (k0_t4 : Fin k0_t4_loop.trips) (c0_i32_335 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v936 : BitVec 32 := Scalar.addi v905 c0_i32_335
  let v937 : Index := Scalar.indexCast v936
  let c64_336 : Index := 64#32
  ![v937.toNat, 64]
def k0_off61 (k0_t4 : Fin k0_t4_loop.trips) (c0_i32_337 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v943 : BitVec 32 := Scalar.addi v905 c0_i32_337
  let v944 : Index := Scalar.indexCast v943
  let c80_338 : Index := 80#32
  ![v944.toNat, 80]
def k0_off62 (k0_t4 : Fin k0_t4_loop.trips) (c0_i32_339 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v950 : BitVec 32 := Scalar.addi v905 c0_i32_339
  let v951 : Index := Scalar.indexCast v950
  let c96_340 : Index := 96#32
  ![v951.toNat, 96]
def k0_off63 (k0_t4 : Fin k0_t4_loop.trips) (c0_i32_341 : BitVec 32) : Fin 2 → Nat :=
  let c0_i32_33 : BitVec 32 := 0#32
  let c1_i32_34 : BitVec 32 := 1#32
  let arg18 : BitVec 32 := Scf.iv c0_i32_33 c1_i32_34 k0_t4
  let c16_i32_326 : BitVec 32 := 16#32
  let v905 : BitVec 32 := Scalar.muli arg18 c16_i32_326
  let v957 : BitVec 32 := Scalar.addi v905 c0_i32_341
  let v958 : Index := Scalar.indexCast v957
  let c112_342 : Index := 112#32
  ![v958.toNat, 112]
def k0_off64 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_325_r2 : BitVec 32 := 0#32
  let c0_i32_326_r2 : BitVec 32 := 0#32
  let c0_i32_327_r2 : BitVec 32 := 0#32
  ![v1.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S98304x128 : Shape := ⟨2, ![98304, 128]⟩
abbrev S1800x72 : Shape := ⟨2, ![1800, 72]⟩
abbrev S2x900x3 : Shape := ⟨3, ![2, 900, 3]⟩
abbrev S256x256 : Shape := ⟨2, ![256, 256]⟩
abbrev S256 : Shape := ⟨1, ![256]⟩
abbrev S256x3 : Shape := ⟨2, ![256, 3]⟩
abbrev S98304x256 : Shape := ⟨2, ![98304, 256]⟩
abbrev S1800x72x1 : Shape := ⟨3, ![1800, 72, 1]⟩
abbrev S1800x72x256 : Shape := ⟨3, ![1800, 72, 256]⟩
abbrev S_ : Shape := ⟨0, ![]⟩
abbrev S1800x256 : Shape := ⟨2, ![1800, 256]⟩
abbrev S2x900x256 : Shape := ⟨3, ![2, 900, 256]⟩
abbrev S1x1x256 : Shape := ⟨3, ![1, 1, 256]⟩
abbrev S3x256 : Shape := ⟨2, ![3, 256]⟩

abbrev nBuf : Space → Nat
  | .hbm => 60
  | .vmem => 0
  | .smem => 0
  | _ => 0

abbrev bufTy : (tb : Table) → Fin (tcTables nBuf tb) → BufTy
  | .hbm, ⟨0, _⟩ => ⟨S98304x128, .f32⟩
  | .hbm, ⟨1, _⟩ => ⟨S98304x128, .f32⟩
  | .hbm, ⟨2, _⟩ => ⟨S1800x72, .i32⟩
  | .hbm, ⟨3, _⟩ => ⟨S1800x72, .f32⟩
  | .hbm, ⟨4, _⟩ => ⟨S2x900x3, .f32⟩
  | .hbm, ⟨5, _⟩ => ⟨S256x256, .f32⟩
  | .hbm, ⟨6, _⟩ => ⟨S256, .f32⟩
  | .hbm, ⟨7, _⟩ => ⟨S256x3, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S98304x256, .f32⟩
  | .hbm, ⟨12, _⟩ => ⟨S1800x72x1, .i32⟩
  | .hbm, ⟨13, _⟩ => ⟨S1800x72x256, .f32⟩
  | .hbm, ⟨14, _⟩ => ⟨S1800x72x1, .f32⟩
  | .hbm, ⟨15, _⟩ => ⟨S1800x72x256, .f32⟩
  | .hbm, ⟨16, _⟩ => ⟨S1800x72x256, .f32⟩
  | .hbm, ⟨17, _⟩ => ⟨S_, .f32⟩
  | .hbm, ⟨18, _⟩ => ⟨S1800x256, .f32⟩
  | .hbm, ⟨19, _⟩ => ⟨S2x900x256, .f32⟩
  | .hbm, ⟨20, _⟩ => ⟨S256x256, .f32⟩
  | .hbm, ⟨21, _⟩ => ⟨S2x900x256, .f32⟩
  | .hbm, ⟨22, _⟩ => ⟨S1x1x256, .f32⟩
  | .hbm, ⟨23, _⟩ => ⟨S2x900x256, .f32⟩
  | .hbm, ⟨24, _⟩ => ⟨S2x900x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x900x3, .f32⟩
  | .hbm, ⟨29, _⟩ => ⟨S2x900x3, .f32⟩
  | .hbm, ⟨30, _⟩ => ⟨S_, .f32⟩
  | .hbm, ⟨31, _⟩ => ⟨S2x900x3, .f32⟩
  | .hbm, ⟨32, _⟩ => ⟨S2x900x3, .f32⟩
  | .hbm, ⟨33, _⟩ => ⟨S_, .f32⟩
  | .hbm, ⟨34, _⟩ => ⟨S_, .f32⟩
  | .hbm, ⟨35, _⟩ => ⟨S2x900x3, .f32⟩
  | .hbm, ⟨36, _⟩ => ⟨S2x900x3, .f32⟩
  | .hbm, ⟨37, _⟩ => ⟨S_, .f32⟩
  | .hbm, ⟨38, _⟩ => ⟨S2x900x3, .f32⟩
  | .hbm, ⟨39, _⟩ => ⟨S2x900x3, .f32⟩
  | .hbm, ⟨40, _⟩ => ⟨S_, .f32⟩
  | .hbm, ⟨41, _⟩ => ⟨S_, .f32⟩
  | .hbm, ⟨42, _⟩ => ⟨S2x900x3, .f32⟩
  | .hbm, ⟨43, _⟩ => ⟨S2x900x3, .f32⟩
  | .hbm, ⟨44, _⟩ => ⟨S2x900x3, .f32⟩
  | .hbm, ⟨45, _⟩ => ⟨S2x900x3, .f32⟩
  | .hbm, ⟨46, _⟩ => ⟨S3x256, .f32⟩
  | .hbm, ⟨47, _⟩ => ⟨S2x900x256, .f32⟩
  | .hbm, ⟨48, _⟩ => ⟨S1x1x256, .f32⟩
  | .hbm, ⟨49, _⟩ => ⟨S2x900x256, .f32⟩
  | .hbm, ⟨50, _⟩ => ⟨S2x900x256, .f32⟩
  | .hbm, ⟨51, _⟩ => ⟨S_, .f32⟩
  | .hbm, ⟨52, _⟩ => ⟨S2x900x256, .f32⟩
  | .hbm, ⟨53, _⟩ => ⟨S2x900x256, .f32⟩
  | .hbm, ⟨54, _⟩ => ⟨S256x256, .f32⟩
  | .hbm, ⟨55, _⟩ => ⟨S2x900x256, .f32⟩
  | .hbm, ⟨56, _⟩ => ⟨S1x1x256, .f32⟩
  | .hbm, ⟨57, _⟩ => ⟨S2x900x256, .f32⟩
  | .hbm, ⟨58, _⟩ => ⟨S2x900x256, .f32⟩
  | .hbm, ⟨59, _⟩ => ⟨S2x900x256, .f32⟩
  | _, _ => ⟨S98304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_cst_2 : Ref sig .tc := ⟨.hbm, 33, rfl⟩
abbrev main_call2_v0 : Ref sig .tc := ⟨.hbm, 34, rfl⟩
abbrev main_call2_v1 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_cst_4 : Ref sig .tc := ⟨.hbm, 40, rfl⟩
abbrev main_call3_v0 : Ref sig .tc := ⟨.hbm, 41, rfl⟩
abbrev main_call3_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call4_cst : Ref sig .tc := ⟨.hbm, 51, rfl⟩
abbrev main_call4_v0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]
-- ==== Proof.Acc.lean ====
/-
  The arithmetic of the weighted sum, over any float instance: a row's weighted sum accumulated one gathered row at a
  time in sixteen-lane pieces, and the sixteen steps of one trip of the kernel's inner loop as sixteen steps of it.
-/
module

public import Idealize.ShloMosaic.Lib.Pipeline.Value
public import Idealize.ShloMosaic.Lib.ValueIdxCore

@[expose] public section

noncomputable section

namespace Cert.Proof.Acc

open Idealize.ShloMosaic Idealize.ShloMosaic.ValueIdx

variable {F : FTy → Type} [FloatOps F]

abbrev L1 : Shape := ⟨1, ![1]⟩
abbrev L16 : Shape := ⟨1, ![16]⟩
abbrev L1x16 : Shape := ⟨2, ![1, 16]⟩

/-- A two-axis array read at two natural numbers, each taken below its axis' size. -/
def tot {α : Type} {m n : ℕ} [NeZero m] [NeZero n] (f : (⟨2, ![m, n]⟩ : Shape).Idx → α) (a b : ℕ) : α :=
  f (ix2 (Fin.ofNat m a) (Fin.ofNat n b))

/-- One step: the row times its weight, added to what has been accumulated. -/
def fma (acc : FVec F L16 .f32) (w : F .f32) (row : FVec F L16 .f32) : FVec F L16 .f32 := addf acc (mulf (broadcast L16 w) row)

/-- The first `n` steps from zero, over weights and rows named by their number. -/
def accv (w : ℕ → F .f32) (row : ℕ → FVec F L16 .f32) : ℕ → FVec F L16 .f32
  | 0 => constant L16 .f32 0x00000000#32
  | n + 1 => fma (accv w row n) (w n) (row n)

/-- Sixteen steps, written out. -/
def chain16 (acc : FVec F L16 .f32) (w : Fin 16 → F .f32) (row : Fin 16 → FVec F L16 .f32) : FVec F L16 .f32 :=
  fma (fma (fma (fma (fma (fma (fma (fma (fma (fma (fma (fma (fma (fma (fma (fma acc
    (w 0) (row 0)) (w 1) (row 1)) (w 2) (row 2)) (w 3) (row 3)) (w 4) (row 4)) (w 5) (row 5)) (w 6) (row 6)) (w 7) (row 7))
    (w 8) (row 8)) (w 9) (row 9)) (w 10) (row 10)) (w 11) (row 11)) (w 12) (row 12)) (w 13) (row 13)) (w 14) (row 14)) (w 15) (row 15)

/-- Eight steps, written out. -/
def chain8 (acc : FVec F L16 .f32) (w : Fin 8 → F .f32) (row : Fin 8 → FVec F L16 .f32) : FVec F L16 .f32 :=
  fma (fma (fma (fma (fma (fma (fma (fma acc
    (w 0) (row 0)) (w 1) (row 1)) (w 2) (row 2)) (w 3) (row 3)) (w 4) (row 4)) (w 5) (row 5)) (w 6) (row 6)) (w 7) (row 7)

/-- Sixteen written steps from the `n`-th sum reach the `n + 16`-th. -/
theorem chain16_eq (w : ℕ → F .f32) (row : ℕ → FVec F L16 .f32) (n : ℕ) (ws : Fin 16 → F .f32) (rows : Fin 16 → FVec F L16 .f32)
    (hw : ∀ j, ws j = w (n + j.val)) (hr : ∀ j, rows j = row (n + j.val)) : chain16 (accv w row n) ws rows = accv w row (n + 16) := by
  unfold chain16; simp only [hw, hr]; rfl

/-- Eight written steps from the `n`-th sum reach the `n + 8`-th. -/
theorem chain8_eq (w : ℕ → F .f32) (row : ℕ → FVec F L16 .f32) (n : ℕ) (ws : Fin 8 → F .f32) (rows : Fin 8 → FVec F L16 .f32)
    (hw : ∀ j, ws j = w (n + j.val)) (hr : ∀ j, rows j = row (n + j.val)) : chain8 (accv w row n) ws rows = accv w row (n + 8) := by
  unfold chain8; simp only [hw, hr]; rfl

theorem slices_lane (j : Fin 16) : L16.Slices ![j.val] L1 := by revert j; decide

/-- Lane `j` of a sixteen-lane vector, as the kernel extracts it. -/
def lane (x : FVec F L16 .f32) (j : Fin 16) : F .f32 :=
  extractAt ![0] (extractStridedSlice L1 ![j.val] x (slices_lane j)) (by decide)

omit [FloatOps F] in
theorem lane_eq (x : FVec F L16 .f32) (j : Fin 16) : lane x j = x (ix1 j) := by
  unfold lane extractAt extractStridedSlice
  refine congrArg x (funext fun a => ?_)
  match a with
  | 0 => exact Fin.ext (by simp [ix1])

/-- A load of sixteen lanes of one row of a two-axis array, as a vector of the array's elements. -/
theorem load_eq {sig : RefSig} {κ : Kind} {sp : Space} {m n : ℕ} [NeZero m] [NeZero n]
    (v : View sig κ sp ⟨2, ![m, n]⟩ .f32) (f : v.ty.Contents (Elt F)) (off : Fin 2 → ℕ)
    (inb : ∀ a, off a + L1x16.size a ≤ (⟨2, ![m, n]⟩ : Shape).size a) (h : L1x16.ShapeCasts L16) (a b : ℕ) (e : off = ![a, b]) :
    shapeCast L16 (View.readAt (Elt F) v (Rect.unit (s := ⟨2, ![m, n]⟩) off L1x16.size inb).toLoadRect f) h
      = fun x => tot (v.read (Elt F) f) a (b + (x 0).val) := by
  subst e
  funext x
  rw [shapeCast_dropUnit_apply]
  unfold tot
  rw [View.readAt_apply]
  refine congrArg (v.read (Elt F) f) (funext fun i => ?_)
  have hx : (x 0).val < 16 := (x 0).isLt
  match i with
  | 0 =>
    refine Fin.ext ?_
    have h0 : a + 1 ≤ m := inb 0
    show a + 1 * 0 = a % m
    rw [Nat.mod_eq_of_lt (by omega)]; omega
  | 1 =>
    refine Fin.ext ?_
    have h1 : b + 16 ≤ n := inb 1
    show b + 1 * (x 0).val = (b + (x 0).val) % n
    rw [Nat.mod_eq_of_lt (by omega)]; omega

/-- The sixteen lanes from column `16 c` of row `n`. -/
def rowv {m : ℕ} [NeZero m] (X : (⟨2, ![m, 128]⟩ : Shape).Idx → F .f32) (c n : ℕ) : FVec F L16 .f32 := fun x => tot X n (16 * c + (x 0).val)

/-- The weighted sum of the first `n` rows of `X`, lanes `16 c` to `16 c + 15`, at the weights in row `q` of `W`. -/
abbrev wsum {m r : ℕ} [NeZero m] [NeZero r] (W : (⟨2, ![r, 128]⟩ : Shape).Idx → F .f32) (q : ℕ) (X : (⟨2, ![m, 128]⟩ : Shape).Idx → F .f32) (c n : ℕ) :
    FVec F L16 .f32 := accv (tot W q) (rowv X c) n

/-- What the inner loop carries: the sixteen accumulators. -/
abbrev Carry (F : FTy → Type) : Type :=
  FVec F L16 .f32 × FVec F L16 .f32 × FVec F L16 .f32 × FVec F L16 .f32 × FVec F L16 .f32 × FVec F L16 .f32 × FVec F L16 .f32 × FVec F L16 .f32
    × FVec F L16 .f32 × FVec F L16 .f32 × FVec F L16 .f32 × FVec F L16 .f32 × FVec F L16 .f32 × FVec F L16 .f32 × FVec F L16 .f32 × FVec F L16 .f32

/-- The sixteen accumulators after `n` rows: eight over the even channels' rows, eight over the odd channels'. -/
def carry {m r : ℕ} [NeZero m] [NeZero r] (W : (⟨2, ![r, 128]⟩ : Shape).Idx → F .f32) (q : ℕ) (E O : (⟨2, ![m, 128]⟩ : Shape).Idx → F .f32) (n : ℕ) : Carry F :=
  (wsum W q E 0 n, wsum W q E 1 n, wsum W q E 2 n, wsum W q E 3 n, wsum W q E 4 n, wsum W q E 5 n, wsum W q E 6 n, wsum W q E 7 n,
    wsum W q O 0 n, wsum W q O 1 n, wsum W q O 2 n, wsum W q O 3 n, wsum W q O 4 n, wsum W q O 5 n, wsum W q O 6 n, wsum W q O 7 n)

/-- One accumulator over one trip: the sixteen steps the kernel writes out, each loading a row's lanes, its weights the
    lanes of one load, take the sum of `16 k` rows to the sum of `16 (k + 1)`. -/
theorem trip_lane {sig : RefSig} {κ : Kind} {sp sp' : Space} {m r : ℕ} [NeZero m] [NeZero r]
    (vw : View sig κ sp ⟨2, ![r, 128]⟩ .f32) (fw : vw.ty.Contents (Elt F)) (offw : Fin 2 → ℕ)
    (inbw : ∀ a, offw a + L1x16.size a ≤ (⟨2, ![r, 128]⟩ : Shape).size a)
    (v : View sig κ sp' ⟨2, ![m, 128]⟩ .f32) (f : v.ty.Contents (Elt F)) (off : BitVec 32 → Fin 2 → ℕ)
    (inb : ∀ j : Fin 16, ∀ a, off (BitVec.ofNat 32 j.val) a + L1x16.size a ≤ (⟨2, ![m, 128]⟩ : Shape).size a)
    (h : L1x16.ShapeCasts L16) (q k c : ℕ) (ew : offw = ![q, 16 * k]) (e : ∀ j : Fin 16, off (BitVec.ofNat 32 j.val) = ![16 * k + j.val, 16 * c]) :
    chain16 (wsum (vw.read (Elt F) fw) q (v.read (Elt F) f) c (16 * k))
        (fun j => lane (shapeCast L16 (View.readAt (Elt F) vw (Rect.unit (s := ⟨2, ![r, 128]⟩) offw L1x16.size inbw).toLoadRect fw) h) j)
        (fun j => shapeCast L16 (View.readAt (Elt F) v (Rect.unit (s := ⟨2, ![m, 128]⟩) (off (BitVec.ofNat 32 j.val)) L1x16.size (inb j)).toLoadRect f) h)
      = wsum (vw.read (Elt F) fw) q (v.read (Elt F) f) c (16 * (k + 1)) := by
  refine (chain16_eq _ _ _ _ _ (fun j => ?_) (fun j => ?_)).trans rfl
  · rw [lane_eq, load_eq vw fw offw inbw h q (16 * k) ew]
  · exact load_eq v f _ (inb j) h _ _ (e j)

/-- Sixteen steps as `trip_lane` takes them: the weights the lanes of one load, the rows one load each. -/
abbrev steps {sig : RefSig} {κ : Kind} {sp sp' : Space} {m r : ℕ}
    (vw : View sig κ sp ⟨2, ![r, 128]⟩ .f32) (fw : vw.ty.Contents (Elt F)) (offw : Fin 2 → ℕ)
    (inbw : ∀ a, offw a + L1x16.size a ≤ (⟨2, ![r, 128]⟩ : Shape).size a)
    (v : View sig κ sp' ⟨2, ![m, 128]⟩ .f32) (f : v.ty.Contents (Elt F)) (off : BitVec 32 → Fin 2 → ℕ)
    (inb : ∀ j : Fin 16, ∀ a, off (BitVec.ofNat 32 j.val) a + L1x16.size a ≤ (⟨2, ![m, 128]⟩ : Shape).size a)
    (h : L1x16.ShapeCasts L16) (acc : FVec F L16 .f32) : FVec F L16 .f32 :=
  chain16 acc
    (fun j => lane (shapeCast L16 (View.readAt (Elt F) vw (Rect.unit (s := ⟨2, ![r, 128]⟩) offw L1x16.size inbw).toLoadRect fw) h) j)
    (fun j => shapeCast L16 (View.readAt (Elt F) v (Rect.unit (s := ⟨2, ![m, 128]⟩) (off (BitVec.ofNat 32 j.val)) L1x16.size (inb j)).toLoadRect f) h)

/-- One trip over all sixteen accumulators: the carry at `16 k` becomes the carry at `16 (k + 1)`. -/
theorem trip_carry {sig : RefSig} {κ : Kind} {sp sp' : Space} {m r : ℕ} [NeZero m] [NeZero r]
    (vw : View sig κ sp ⟨2, ![r, 128]⟩ .f32) (fw : vw.ty.Contents (Elt F)) (offw : Fin 2 → ℕ)
    (inbw : ∀ a, offw a + L1x16.size a ≤ (⟨2, ![r, 128]⟩ : Shape).size a)
    (ve vo : View sig κ sp' ⟨2, ![m, 128]⟩ .f32) (fe : ve.ty.Contents (Elt F)) (fo : vo.ty.Contents (Elt F))
    (h : L1x16.ShapeCasts L16) (q k : ℕ) (ew : offw = ![q, 16 * k])
    {o0 o1 o2 o3 o4 o5 o6 o7 : BitVec 32 → Fin 2 → ℕ}
    (i0 : ∀ j : Fin 16, ∀ a, o0 (BitVec.ofNat 32 j.val) a + L1x16.size a ≤ (⟨2, ![m, 128]⟩ : Shape).size a)
    (i1 : ∀ j : Fin 16, ∀ a, o1 (BitVec.ofNat 32 j.val) a + L1x16.size a ≤ (⟨2, ![m, 128]⟩ : Shape).size a)
    (i2 : ∀ j : Fin 16, ∀ a, o2 (BitVec.ofNat 32 j.val) a + L1x16.size a ≤ (⟨2, ![m, 128]⟩ : Shape).size a)
    (i3 : ∀ j : Fin 16, ∀ a, o3 (BitVec.ofNat 32 j.val) a + L1x16.size a ≤ (⟨2, ![m, 128]⟩ : Shape).size a)
    (i4 : ∀ j : Fin 16, ∀ a, o4 (BitVec.ofNat 32 j.val) a + L1x16.size a ≤ (⟨2, ![m, 128]⟩ : Shape).size a)
    (i5 : ∀ j : Fin 16, ∀ a, o5 (BitVec.ofNat 32 j.val) a + L1x16.size a ≤ (⟨2, ![m, 128]⟩ : Shape).size a)
    (i6 : ∀ j : Fin 16, ∀ a, o6 (BitVec.ofNat 32 j.val) a + L1x16.size a ≤ (⟨2, ![m, 128]⟩ : Shape).size a)
    (i7 : ∀ j : Fin 16, ∀ a, o7 (BitVec.ofNat 32 j.val) a + L1x16.size a ≤ (⟨2, ![m, 128]⟩ : Shape).size a)
    (e0 : ∀ j : Fin 16, o0 (BitVec.ofNat 32 j.val) = ![16 * k + j.val, 0])
    (e1 : ∀ j : Fin 16, o1 (BitVec.ofNat 32 j.val) = ![16 * k + j.val, 16])
    (e2 : ∀ j : Fin 16, o2 (BitVec.ofNat 32 j.val) = ![16 * k + j.val, 32])
    (e3 : ∀ j : Fin 16, o3 (BitVec.ofNat 32 j.val) = ![16 * k + j.val, 48])
    (e4 : ∀ j : Fin 16, o4 (BitVec.ofNat 32 j.val) = ![16 * k + j.val, 64])
    (e5 : ∀ j : Fin 16, o5 (BitVec.ofNat 32 j.val) = ![16 * k + j.val, 80])
    (e6 : ∀ j : Fin 16, o6 (BitVec.ofNat 32 j.val) = ![16 * k + j.val, 96])
    (e7 : ∀ j : Fin 16, o7 (BitVec.ofNat 32 j.val) = ![16 * k + j.val, 112]) :
    ((steps vw fw offw inbw ve fe o0 i0 h (wsum (vw.read (Elt F) fw) q (ve.read (Elt F) fe) 0 (16 * k)),
      steps vw fw offw inbw ve fe o1 i1 h (wsum (vw.read (Elt F) fw) q (ve.read (Elt F) fe) 1 (16 * k)),
      steps vw fw offw inbw ve fe o2 i2 h (wsum (vw.read (Elt F) fw) q (ve.read (Elt F) fe) 2 (16 * k)),
      steps vw fw offw inbw ve fe o3 i3 h (wsum (vw.read (Elt F) fw) q (ve.read (Elt F) fe) 3 (16 * k)),
      steps vw fw offw inbw ve fe o4 i4 h (wsum (vw.read (Elt F) fw) q (ve.read (Elt F) fe) 4 (16 * k)),
      steps vw fw offw inbw ve fe o5 i5 h (wsum (vw.read (Elt F) fw) q (ve.read (Elt F) fe) 5 (16 * k)),
      steps vw fw offw inbw ve fe o6 i6 h (wsum (vw.read (Elt F) fw) q (ve.read (Elt F) fe) 6 (16 * k)),
      steps vw fw offw inbw ve fe o7 i7 h (wsum (vw.read (Elt F) fw) q (ve.read (Elt F) fe) 7 (16 * k)),
      steps vw fw offw inbw vo fo o0 i0 h (wsum (vw.read (Elt F) fw) q (vo.read (Elt F) fo) 0 (16 * k)),
      steps vw fw offw inbw vo fo o1 i1 h (wsum (vw.read (Elt F) fw) q (vo.read (Elt F) fo) 1 (16 * k)),
      steps vw fw offw inbw vo fo o2 i2 h (wsum (vw.read (Elt F) fw) q (vo.read (Elt F) fo) 2 (16 * k)),
      steps vw fw offw inbw vo fo o3 i3 h (wsum (vw.read (Elt F) fw) q (vo.read (Elt F) fo) 3 (16 * k)),
      steps vw fw offw inbw vo fo o4 i4 h (wsum (vw.read (Elt F) fw) q (vo.read (Elt F) fo) 4 (16 * k)),
      steps vw fw offw inbw vo fo o5 i5 h (wsum (vw.read (Elt F) fw) q (vo.read (Elt F) fo) 5 (16 * k)),
      steps vw fw offw inbw vo fo o6 i6 h (wsum (vw.read (Elt F) fw) q (vo.read (Elt F) fo) 6 (16 * k)),
      steps vw fw offw inbw vo fo o7 i7 h (wsum (vw.read (Elt F) fw) q (vo.read (Elt F) fo) 7 (16 * k))) : Carry F)
      = carry (vw.read (Elt F) fw) q (ve.read (Elt F) fe) (vo.read (Elt F) fo) (16 * (k + 1)) := by
  have le := fun off inb c e => trip_lane vw fw offw inbw ve fe off inb h q k c ew e
  have lo := fun off inb c e => trip_lane vw fw offw inbw vo fo off inb h q k c ew e
  unfold carry steps
  rw [le o0 i0 0 e0, le o1 i1 1 e1, le o2 i2 2 e2, le o3 i3 3 e3, le o4 i4 4 e4, le o5 i5 5 e5, le o6 i6 6 e6, le o7 i7 7 e7, lo o0 i0 0 e0, lo o1 i1 1 e1, lo o2 i2 2 e2, lo o3 i3 3 e3, lo o4 i4 4 e4, lo o5 i5 5 e5, lo o6 i6 6 e6, lo o7 i7 7 e7]

end Cert.Proof.Acc

end
-- ==== Proof.Stores.lean ====
/-
  One query's results, over any float instance: the eight rows left over after the inner loop, the sixteen stores of a
  query's row of results, the rows an indirect gather brings, and the combination a subcore's output holds.
-/
module

public import proofs.«01_k».proof.Proof.Acc
public import Idealize.ShloMosaic.Lib.Writes
public import Idealize.ShloMosaic.Lib.SparseCore.Stream

@[expose] public section

noncomputable section

namespace Cert.Proof.Acc

open Idealize.ShloMosaic Idealize.ShloMosaic.ValueIdx

variable {F : FTy → Type} [FloatOps F]

abbrev L1x1x16 : Shape := ⟨3, ![1, 1, 16]⟩
abbrev LOut : Shape := ⟨3, ![64, 2, 128]⟩

/-- Eight steps whose weights are the first lanes of one load and whose rows are rows 64 to 71, as the kernel writes them. -/
abbrev tail {sig : RefSig} {κ : Kind} {sp sp' : Space} {r : ℕ}
    (vw : View sig κ sp ⟨2, ![r, 128]⟩ .f32) (fw : vw.ty.Contents (Elt F)) (offw : Fin 2 → ℕ)
    (inbw : ∀ a, offw a + L1x16.size a ≤ (⟨2, ![r, 128]⟩ : Shape).size a)
    (v : View sig κ sp' ⟨2, ![72, 128]⟩ .f32) (f : v.ty.Contents (Elt F)) (c : ℕ)
    (inb : ∀ j : Fin 8, ∀ a, (![64 + j.val, 16 * c] : Fin 2 → ℕ) a + L1x16.size a ≤ (⟨2, ![72, 128]⟩ : Shape).size a)
    (h : L1x16.ShapeCasts L16) (acc : FVec F L16 .f32) : FVec F L16 .f32 :=
  chain8 acc
    (fun j => lane (shapeCast L16 (View.readAt (Elt F) vw (Rect.unit (s := ⟨2, ![r, 128]⟩) offw L1x16.size inbw).toLoadRect fw) h) ⟨j.val, by omega⟩)
    (fun j => shapeCast L16 (View.readAt (Elt F) v (Rect.unit (s := ⟨2, ![72, 128]⟩) ![64 + j.val, 16 * c] L1x16.size (inb j)).toLoadRect f) h)

/-- They take the sum of 64 rows to the sum of all 72. -/
theorem tail_eq {sig : RefSig} {κ : Kind} {sp sp' : Space} {r : ℕ} [NeZero r]
    (vw : View sig κ sp ⟨2, ![r, 128]⟩ .f32) (fw : vw.ty.Contents (Elt F)) (offw : Fin 2 → ℕ)
    (inbw : ∀ a, offw a + L1x16.size a ≤ (⟨2, ![r, 128]⟩ : Shape).size a)
    (v : View sig κ sp' ⟨2, ![72, 128]⟩ .f32) (f : v.ty.Contents (Elt F)) (c : ℕ)
    (inb : ∀ j : Fin 8, ∀ a, (![64 + j.val, 16 * c] : Fin 2 → ℕ) a + L1x16.size a ≤ (⟨2, ![72, 128]⟩ : Shape).size a)
    (h : L1x16.ShapeCasts L16) (q : ℕ) (ew : offw = ![q, 64]) :
    tail vw fw offw inbw v f c inb h (wsum (vw.read (Elt F) fw) q (v.read (Elt F) f) c 64)
      = wsum (vw.read (Elt F) fw) q (v.read (Elt F) f) c 72 := by
  refine (chain8_eq _ _ _ _ _ (fun j => ?_) (fun j => ?_)).trans rfl
  · rw [lane_eq, load_eq vw fw offw inbw h q 64 ew]
  · exact load_eq v f _ (inb j) h _ _ rfl

omit [FloatOps F] in
/-- Writes that agree with `G` and cover exactly the places where `P` holds: there the buffer reads `G`, elsewhere what
    the earlier writes left. -/
theorem read_writes_append {sig : RefSig} {κ : Kind} {sp : Space} {s : Shape} {e : EltTy} (v : View sig κ sp s e) (f : v.ty.Contents (Elt F))
    (P : s.Idx → Prop) [DecidablePred P] (G : s.Idx → Elt F e) (L L' : List (View.Piece (Elt F) s e))
    (hG : ∀ p ∈ L, ∀ x : p.1.shape.Idx, p.2 x = G (p.1.emb x)) (hP : ∀ p ∈ L, ∀ y ∈ p.1.set, P y)
    (hc : ∀ y, P y → ∃ p ∈ L, y ∈ p.1.set) (y : s.Idx) :
    v.read (Elt F) (v.writes (Elt F) f (L ++ L')) y = if P y then G y else v.read (Elt F) (v.writes (Elt F) f L') y := by
  rw [View.writes_append]
  split
  · rename_i h; exact View.read_writes_apply_of_pieces v _ G L hG y (hc y h)
  · rename_i h; exact View.read_writes_apply_of_forall_not_mem v _ y L fun p hp hy => h (hP p hp y hy)

/-- A store of sixteen lanes of a query's results. -/
abbrev store (o : Fin 3 → ℕ) (inb : ∀ i, o i + L1x1x16.size i ≤ LOut.size i) (h : L16.ShapeCasts L1x1x16) (u : FVec F L16 .f32) :
    View.Piece (Elt F) LOut .f32 := ⟨Rect.unit (s := LOut) o L1x1x16.size inb, shapeCast L1x1x16 u h⟩

/-- The sixteen stores of a query, newest first, before the writes `L'`. -/
abbrev rowStores (o : Fin 2 → Fin 8 → Fin 3 → ℕ) (inb : ∀ a c, ∀ i, o a c i + L1x1x16.size i ≤ LOut.size i) (h : L16.ShapeCasts L1x1x16)
    (U : Fin 2 → Fin 8 → FVec F L16 .f32) (L' : List (View.Piece (Elt F) LOut .f32)) : List (View.Piece (Elt F) LOut .f32) :=
  store (o 1 7) (inb 1 7) h (U 1 7) :: store (o 1 6) (inb 1 6) h (U 1 6) :: store (o 1 5) (inb 1 5) h (U 1 5) :: store (o 1 4) (inb 1 4) h (U 1 4)
    :: store (o 1 3) (inb 1 3) h (U 1 3) :: store (o 1 2) (inb 1 2) h (U 1 2) :: store (o 1 1) (inb 1 1) h (U 1 1) :: store (o 1 0) (inb 1 0) h (U 1 0)
    :: store (o 0 7) (inb 0 7) h (U 0 7) :: store (o 0 6) (inb 0 6) h (U 0 6) :: store (o 0 5) (inb 0 5) h (U 0 5) :: store (o 0 4) (inb 0 4) h (U 0 4)
    :: store (o 0 3) (inb 0 3) h (U 0 3) :: store (o 0 2) (inb 0 2) h (U 0 2) :: store (o 0 1) (inb 0 1) h (U 0 1) :: store (o 0 0) (inb 0 0) h (U 0 0) :: L'

/-- The sixteen stores of query `q`, newest first: row `q` then reads the stored lanes, every other row what it read before. -/
theorem read_row {sig : RefSig} {κ : Kind} {sp : Space} (v : View sig κ sp LOut .f32) (f : v.ty.Contents (Elt F)) (q : ℕ)
    (o : Fin 2 → Fin 8 → Fin 3 → ℕ) (inb : ∀ a c, ∀ i, o a c i + L1x1x16.size i ≤ LOut.size i)
    (eo : ∀ a c, o a c = ![q, a.val, 16 * c.val]) (h : L16.ShapeCasts L1x1x16) (U : Fin 2 → Fin 8 → FVec F L16 .f32)
    (V : ℕ → ℕ → FVec F L16 .f32) (hU : ∀ a c, U a c = V a.val c.val) (L' : List (View.Piece (Elt F) LOut .f32)) (y : LOut.Idx) :
    v.read (Elt F) (v.writes (Elt F) f
      (rowStores o inb h U L')) y
      = if (y 0).val = q then V (y 1).val ((y 2).val / 16) (ix1 (Fin.ofNat 16 (y 2).val)) else v.read (Elt F) (v.writes (Elt F) f L') y := by
  have key := read_writes_append v f (fun y => (y 0).val = q) (fun y => V (y 1).val ((y 2).val / 16) (ix1 (Fin.ofNat 16 (y 2).val)))
    ((List.finRange 2).reverse.flatMap fun a => (List.finRange 8).reverse.map fun c => store (o a c) (inb a c) h (U a c)) L' ?_ ?_ ?_ y
  · exact key
  · intro p hp x
    simp only [List.mem_flatMap, List.mem_map] at hp
    obtain ⟨a, -, c, -, rfl⟩ := hp
    obtain ⟨x0, x1, x2, rfl⟩ : ∃ x0 x1 x2, x = (ix3 x0 x1 x2 : (⟨3, ![1, 1, 16]⟩ : Shape).Idx) := ⟨_, _, _, eq_ix3 x⟩
    have hx0 : x0.val = 0 := by omega
    have hx1 : x1.val = 0 := by omega
    have h1 : ((Rect.unit (s := LOut) (o a c) L1x1x16.size (inb a c)).emb (ix3 x0 x1 x2) 1).val = a.val := by
      show o a c 1 + 1 * x1.val = _
      rw [eo]; show a.val + 1 * x1.val = _; omega
    have h2 : ((Rect.unit (s := LOut) (o a c) L1x1x16.size (inb a c)).emb (ix3 x0 x1 x2) 2).val = 16 * c.val + x2.val := by
      show o a c 2 + 1 * x2.val = _
      rw [eo]; show 16 * c.val + 1 * x2.val = _; omega
    show shapeCast L1x1x16 (U a c) h (ix3 x0 x1 x2) = V _ _ _
    rw [h1, h2, hU, shapeCast_apply (V a.val c.val) h _ (ix1 x2) (by
      rw [Shape.rowMajor_val_three, Shape.rowMajor_val_one]
      show x2.val = (x0.val * 1 + x1.val) * 16 + x2.val
      omega)]
    have hc : (16 * c.val + x2.val) / 16 = c.val := by omega
    rw [hc]
    refine congrArg (V a.val c.val) (congrArg ix1 (Fin.ext ?_))
    show x2.val = (16 * c.val + x2.val) % 16
    omega
  · intro p hp y hy
    simp only [List.mem_flatMap, List.mem_map] at hp
    obtain ⟨a, -, c, -, rfl⟩ := hp
    have := (Rect.mem_set_unit (s := LOut) (off := o a c) (size := L1x1x16.size) (inb := inb a c)).mp hy 0
    rw [eo] at this
    have h' : q ≤ (y 0).val ∧ (y 0).val < q + 1 := this
    show (y 0).val = q
    omega
  · intro y hy
    have hy : (y 0).val = q := hy
    have y1 : (y 1).val < 2 := (y 1).isLt
    have y2 : (y 2).val < 128 := (y 2).isLt
    obtain ⟨a, ha⟩ : ∃ a : Fin 2, a.val = (y 1).val := ⟨⟨_, y1⟩, rfl⟩
    obtain ⟨c, hc⟩ : ∃ c : Fin 8, c.val = (y 2).val / 16 := ⟨⟨(y 2).val / 16, by omega⟩, rfl⟩
    refine ⟨store (o a c) (inb a c) h (U a c), ?_, ?_⟩
    · exact List.mem_flatMap.mpr ⟨_, List.mem_reverse.mpr (List.mem_finRange _), List.mem_map.mpr ⟨_, List.mem_reverse.mpr (List.mem_finRange _), rfl⟩⟩
    · refine (Rect.mem_set_unit (s := LOut) (off := o a c) (size := L1x1x16.size) (inb := inb a c)).mpr fun i => ?_
      rw [eo, ha, hc]
      match i with
      | 0 => exact ⟨le_of_eq hy.symm, by show (y 0).val < q + 1; omega⟩
      | 1 => exact ⟨le_refl _, by show (y 1).val < (y 1).val + 1; omega⟩
      | 2 => exact ⟨by show 16 * ((y 2).val / 16) ≤ (y 2).val; omega, by show (y 2).val < 16 * ((y 2).val / 16) + 16; omega⟩

/-- The rows a list of 72 row numbers, kept in row `q` of `I`, names in a table. -/
def gat (G : (⟨2, ![98304, 128]⟩ : Shape).Idx → F .f32) (I : (⟨2, ![64, 128]⟩ : Shape).Idx → BitVec 32) (q : ℕ) :
    (⟨2, ![72, 128]⟩ : Shape).Idx → F .f32 := fun x => tot G (tot I q (x 0).val).toNat (x 1).val

/-- What every row number in a subcore's list satisfies. -/
abbrev InTable (I : (⟨2, ![64, 128]⟩ : Shape).Idx → BitVec 32) : Prop := ∀ x, (I x).toNat < 98304

/-- A subcore's results: query `y 0`'s 72 rows of the even or the odd table, weighted and summed, at channel `y 2`. -/
def comb (W : (⟨2, ![64, 128]⟩ : Shape).Idx → F .f32) (GE GO : (⟨2, ![98304, 128]⟩ : Shape).Idx → F .f32)
    (I : (⟨2, ![64, 128]⟩ : Shape).Idx → BitVec 32) (y : LOut.Idx) : F .f32 :=
  wsum W (y 0).val (gat (if (y 1).val = 0 then GE else GO) I (y 0).val) ((y 2).val / 16) 72 (ix1 (Fin.ofNat 16 (y 2).val))

end Cert.Proof.Acc

end
-- ==== Proof.Layout.lean ====
/-
  The layout of the call's operands and results: what the padding, reshaping and slicing on the host leave at each index.
-/
module

public import proofs.«01_k».proof.Proof.Acc
public import Idealize.ShloMosaic.Lib.KernelVsHost
public import Idealize.ShloMosaic.Lib.Pointwise.SelectCore

@[expose] public section

noncomputable section

namespace Cert.Proof.Acc

open Idealize.ShloMosaic

abbrev Rows : Shape := ⟨2, ![1800, 72]⟩
abbrev More : Shape := ⟨2, ![24, 72]⟩
abbrev AllRows : Shape := ⟨2, ![1824, 72]⟩
abbrev Tiles : Shape := ⟨3, ![32, 57, 72]⟩
abbrev Padded : Shape := ⟨3, ![32, 64, 128]⟩

variable {α : Type} (a : Rows.Idx → α) (b : More.Idx → α) {u : Shape} (v : u.Idx → α)
  (hc : Shape.Concatenates [Rows, More] AllRows 0) (hs : AllRows.ShapeCasts Tiles)
  (hp : Tiles.Pads ![0, 0, 0] ![0, 7, 56] ![0, 0, 0] Padded) (hu : 0 < u.numel)

/-- The host's padding: the rows and twenty-four more, fifty-seven to a tile, each tile padded to sixty-four rows of 128. -/
abbrev padded : Padded.Idx → α :=
  pad Padded ![0, 0, 0] ![0, 7, 56] ![0, 0, 0] (shapeCast Tiles (concatenate AllRows 0 [⟨Rows, a⟩, ⟨More, b⟩] hc) hs) v hp hu

/-- What holds of all that is padded holds of the padding. -/
theorem padded_forall {p : α → Prop} (ha : ∀ i, p (a i)) (hb : ∀ i, p (b i)) (hv : ∀ i, p (v i)) (x : Padded.Idx) :
    p (padded a b v hc hs hp hu x) := by
  unfold padded pad
  split
  · refine concatenate_forall AllRows 0 [⟨Rows, a⟩, ⟨More, b⟩] hc (fun q hq => ?_) _
    simp only [List.mem_cons, List.not_mem_nil, or_false] at hq
    rcases hq with rfl | rfl
    · exact ha
    · exact hb
  · exact hv _

/-- Row `q` of tile `w` is row `57 w + q`. -/
theorem padded_at (w : Fin 32) (q : Fin 64) (k : Fin 128) (hq : q.val < 57) (hk : k.val < 72) (n : Fin 1800) (hn : n.val = 57 * w.val + q.val) :
    padded a b v hc hs hp hu (ValueIdx.ix3 w q k) = a (ValueIdx.ix2 n ⟨k.val, hk⟩) := by
  have hw := w.isLt
  have hn' := n.isLt
  refine (pad_apply_of_inside _ _ _ _ _ hp hu _ (ValueIdx.ix3 w ⟨q.val, hq⟩ ⟨k.val, hk⟩ : Tiles.Idx) fun x => ?_).trans
    ((shapeCast_apply _ hs _ (ValueIdx.ix2 ⟨n.val, by omega⟩ ⟨k.val, hk⟩ : AllRows.Idx) ?_).trans
      (concatenate_pair_apply_left 0 a b hc _ rfl (ValueIdx.ix2 n ⟨k.val, hk⟩) fun x => ?_))
  · match x with
    | 0 => show w.val = 0 + w.val * 1; omega
    | 1 => show q.val = 0 + q.val * 1; omega
    | 2 => show k.val = 0 + k.val * 1; omega
  · rw [Shape.rowMajor_val_two, Shape.rowMajor_val_three]
    show n.val * 72 + k.val = (w.val * 57 + q.val) * 72 + k.val
    rw [hn, Nat.mul_comm w.val]
  · match x with
    | 0 => rfl
    | 1 => rfl

abbrev Blocks : Shape := ⟨4, ![32, 64, 2, 128]⟩
abbrev Flat : Shape := ⟨3, ![32, 64, 256]⟩
abbrev Kept : Shape := ⟨3, ![32, 57, 256]⟩
abbrev AllRes : Shape := ⟨2, ![1824, 256]⟩
abbrev Res : Shape := ⟨2, ![1800, 256]⟩
abbrev Out : Shape := ⟨3, ![2, 900, 256]⟩

/-- The host's reading of the results: each tile's first fifty-seven rows, in order, the first 1800 of them. -/
theorem results_at (f : Blocks.Idx → α) (h1 : Blocks.ShapeCasts Flat) (h2 : Flat.Slices ![0, 0, 0] Kept) (h3 : Kept.ShapeCasts AllRes)
    (h4 : AllRes.Slices ![0, 0] Res) (h5 : Res.ShapeCasts Out) (i : Fin 2) (r : Fin 900) (c : Fin 256)
    (w : Fin 32) (q : Fin 64) (h : Fin 2) (l : Fin 128) (hq : q.val < 57) (hn : 900 * i.val + r.val = 57 * w.val + q.val) (hl : c.val = 128 * h.val + l.val) :
    shapeCast Out (extractStridedSlice Res ![0, 0] (shapeCast AllRes (extractStridedSlice Kept ![0, 0, 0] (shapeCast Flat f h1) h2) h3) h4) h5 (ValueIdx.ix3 i r c)
      = f (ValueIdx.ix4 w q h l) := by
  have hi := i.isLt
  have hr := r.isLt
  have hw := w.isLt
  refine (shapeCast_apply _ h5 _ (ValueIdx.ix2 ⟨900 * i.val + r.val, by omega⟩ c : Res.Idx) ?_).trans
    ((shapeCast_apply _ h3 _ (ValueIdx.ix3 w ⟨q.val, hq⟩ c : Kept.Idx) ?_).trans (shapeCast_apply _ h1 _ (ValueIdx.ix4 w q h l : Blocks.Idx) ?_))
  · rw [Shape.rowMajor_val_two, Shape.rowMajor_val_three]
    show (900 * i.val + r.val) * 256 + c.val = (i.val * 900 + r.val) * 256 + c.val
    omega
  · rw [Shape.rowMajor_val_two, Shape.rowMajor_val_three]
    show (w.val * 57 + q.val) * 256 + c.val = (0 + (900 * i.val + r.val)) * 256 + (0 + c.val)
    omega
  · rw [Shape.rowMajor_val_three, Shape.rowMajor_val_four]
    show ((w.val * 64 + q.val) * 2 + h.val) * 128 + l.val = ((0 + w.val) * 64 + (0 + q.val)) * 256 + (0 + c.val)
    omega

end Cert.Proof.Acc

end
-- ==== Proof.InTable.lean ====
/-
  The precondition, element by element: every listed row number is a row of the tables.
-/
module

public import proofs.«01_k».proof.Proof.Gen.Pre_in_table
public import Idealize.ShloMosaic.Lib.ReduceAll
public import Idealize.ShloMosaic.Lib.WordCmp

@[expose] public section

noncomputable section

namespace Cert.Proof.Acc

open Idealize.ShloMosaic Cert.Pre_in_table

variable {F : FTy → Type} [FloatOps F]

/-- A word that is at least zero and below 98304, both compared as signed words, is below 98304 as a number. -/
theorem word_in_table (v : BitVec 32) (e : IntOp.andi (IntOp.cmpi .sge v 0#32) (IntOp.cmpi .slt v 98304#32) = 1#1) : v.toNat < 98304 := by
  simp only [IntOp.cmpi, WordCmp.andi_ofBool, WordCmp.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- The precondition bounds every listed row number. -/
theorem in_table (a0 a1 : FVec F S98304x128 .f32) (a2 : IVec S1800x72 32) (a3 : FVec F S1800x72 .f32) (a4 : FVec F S2x900x3 .f32)
    (a5 : FVec F S256x256 .f32) (a6 : FVec F S256 .f32) (a7 : FVec F S256x3 .f32) (a8 : FVec F S256 .f32) (a9 : FVec F S256x256 .f32) (a10 : FVec F S256 .f32)
    (h : fn a0 a1 a2 a3 a4 a5 a6 a7 a8 a9 a10 = fun _ => 1#1) (i : S1800x72.Idx) : (a2 i).toNat < 98304 := by
  have : Subsingleton S_.Idx := ⟨fun x y => funext fun z => z.elim0⟩
  exact word_in_table _ (Host.reduce_andi_all _ _ _ _ (fun z => z.elim0) (congrFun h _) i)

end Cert.Proof.Acc

end
-- ==== Proof.KFrame.lean ====
/-
  The program's frame: it runs to its end from any arguments whose lists name rows of the tables, leaves its arguments as
  they were and every counter at zero.
-/
module

public import proofs.«01_k».proof.Defs
public import proofs.«01_k».proof.Proof.KPad

@[expose] public section

noncomputable section

namespace Cert.Proof.Kernel

open Cert.Kernel Cert.Kernel.Gen

open Idealize.ShloMosaic Idealize.SL.Sem
open Cert.Proof.Acc

/-- The precondition puts every listed row number in the tables. -/
theorem rows_of_pre (m : (ℓ : Loc nD τ sig) → Buf (Elt Bits) ℓ) (h : Cert.Pre_Kernel m) : InRange (XM m) :=
  inRange m fun d i => in_table _ _ _ _ _ _ _ _ _ _ _ (h d) i

/-- The program's arguments end as they were. -/
theorem arguments (m : (ℓ : Loc nD τ sig) → Buf (Elt Bits) ℓ) {r : PUnit × MemSt nD τ sig (Elt Bits)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨args_kept m h c main_arg0 (by decide) (by decide) (by decide) (by decide),
    args_kept m h c main_arg1 (by decide) (by decide) (by decide) (by decide),
    args_kept m h c main_arg2 (by decide) (by decide) (by decide) (by decide),
    args_kept m h c main_arg3 (by decide) (by decide) (by decide) (by decide),
    args_kept m h c main_arg4 (by decide) (by decide) (by decide) (by decide),
    args_kept m h c main_arg5 (by decide) (by decide) (by decide) (by decide),
    args_kept m h c main_arg6 (by decide) (by decide) (by decide) (by decide),
    args_kept m h c main_arg7 (by decide) (by decide) (by decide) (by decide),
    args_kept m h c main_arg8 (by decide) (by decide) (by decide) (by decide),
    args_kept m h c main_arg9 (by decide) (by decide) (by decide) (by decide),
    args_kept m h c main_arg10 (by decide) (by decide) (by decide) (by decide)⟩

/-- The frame. -/
theorem frame : Cert.quiescent_Kernel := fun m ρ hpre =>
  (θ_run Cert.Kernel.defs _ _).mono (fun _ h => ⟨fun c => arguments m h c, h.2⟩) (run_main (F := Bits) m ρ (rows_of_pre m hpre))

end Cert.Proof.Kernel

end
-- ==== Proof.ISetup.lean ====
/-
  The set-up of the proofs about `Kernel`: the program as the SparseCore launch theorem sees it, the resource algebra,
  the buffers a vector subcore names, and the coordinates of a subcore in the grid of 2 cores by 16 subcores.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call has two SparseCores. -/
theorem nCore_zero : (K (F := F)).nCore 0 = 2 := rfl
/-- Each has sixteen subcores. -/
theorem nSub_zero : (K (F := F)).nSub 0 = 16 := rfl

/-! ## The resource algebra: the handshakes' rounds and the transfers' counters -/

abbrev UH : Type := URounds (GSem nD τ sig) ℕ
abbrev UU : Type := UH × Counters
abbrev EH : Emb UH (MT nD τ sig (HIx 1) (Elt F) ℕ UU ℕ) := embL

/-! ## The buffers as a vector subcore names them -/

abbrev teV : Memref sig .scVector .hbm S98304x128 .f32 := Memref.whole main_arg0_scv
abbrev toV : Memref sig .scVector .hbm S98304x128 .f32 := Memref.whole main_arg1_scv
abbrev ixV : Memref sig .scVector .hbm S32x64x128 .i32 := Memref.whole main_v5_scv
abbrev wtV : Memref sig .scVector .hbm S32x64x128 .f32 := Memref.whole main_v7_scv
abbrev ouV : Memref sig .scVector .hbm S32x64x2x128 .f32 := Memref.whole main_v8_scv
abbrev ilV : Memref sig .scVector .vmem S64x128 .i32 := Memref.whole cc0_scratch0
abbrev wlV : Memref sig .scVector .vmem S64x128 .f32 := Memref.whole cc0_scratch1
abbrev aeV : Memref sig .scVector .vmem S72x128 .f32 := Memref.whole cc0_scratch2
abbrev aoV : Memref sig .scVector .vmem S72x128 .f32 := Memref.whole cc0_scratch3
abbrev beV : Memref sig .scVector .vmem S72x128 .f32 := Memref.whole cc0_scratch4
abbrev boV : Memref sig .scVector .vmem S72x128 .f32 := Memref.whole cc0_scratch5
abbrev olV : Memref sig .scVector .vmem S64x2x128 .f32 := Memref.whole cc0_scratch6

abbrev cV (L : grid0.Coords) : Fin τ.nSC := (L 0).castLE hcore0
abbrev jV (L : grid0.Coords) : Fin τ.nSub := (L 1).castLE hsub0
/-- The thread of the subcore at coordinates `L`. -/
abbrev thr (d : Dev nD) (L : grid0.Coords) : Thread nD τ := V d (cV L) (jV L)

end Cert.Proof.KernelIdeal

end
-- ==== Proof.ITrip.lean ====
/-
  The trips of the three loops that run over a query's gathered rows, sixteen rows each.
-/
module

public import proofs.«01_k».proof.Proof.ISetup
public import proofs.«01_k».proof.Proof.Acc

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

open Cert.Proof.Acc

set_option maxRecDepth 16384 in
/-- One trip of the loop over the even query of a pair. -/
theorem trip2 (d : Dev nD) (L : grid0.Coords) (t : Fin k0_t1_loop.trips) (w : BitVec 32) (k : Fin k0_t2_loop.trips)
    (fw : Buf (Elt F) ((wlV).view.loc (thr d L))) (fe : Buf (Elt F) ((aeV).view.loc (thr d L))) (fo : Buf (Elt F) ((aoV).view.loc (thr d L))) :
    (iprop(((wlV).view.loc (thr d L) ↦{fullShare} fw) ∗ ((aeV).view.loc (thr d L) ↦{fullShare} fe) ∗ ((aoV).view.loc (thr d L) ↦{fullShare} fo)) : sProp 𝕄)
      ⊢ wp frame (wpE (defs₀ (F := F)) 𝒱₀ (thr d L) none) Set.univ
          (k0_t2_body L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2 0#32 1#32 t w k
            (carry fw (2 * t.val) fe fo (16 * k.val)))
          fun r => iprop(⌜r = carry fw (2 * t.val) fe fo (16 * (k.val + 1))⌝
            ∗ ((wlV).view.loc (thr d L) ↦{fullShare} fw) ∗ ((aeV).view.loc (thr d L) ↦{fullShare} fe) ∗ ((aoV).view.loc (thr d L) ↦{fullShare} fo)) := by
  unfold k0_t2_body carry
  iintro ⟨Hw, He, Ho⟩
  sl_exec_parts
  sl_step
  isplitr
  · ipureintro
    exact trip_carry (F := F) (wlV).view fw _ (k0_off3_inb t k) (aeV).view (aoV).view fe fo shapeCasts_S1x16_S16 (2 * t.val) k.val (k0_off3_eq t k)
      (k0_off4_inb k) (k0_off5_inb k) (k0_off6_inb k) (k0_off7_inb k) (k0_off8_inb k) (k0_off9_inb k) (k0_off10_inb k) (k0_off11_inb k)
      (k0_off4_eq k) (k0_off5_eq k) (k0_off6_eq k) (k0_off7_eq k) (k0_off8_eq k) (k0_off9_eq k) (k0_off10_eq k) (k0_off11_eq k)
  isplitl [Hw]; · iexact Hw
  isplitl [He]; · iexact He
  iexact Ho

set_option maxRecDepth 16384 in
/-- One trip of the loop over the odd query of a pair. -/
theorem trip3 (d : Dev nD) (L : grid0.Coords) (t : Fin k0_t1_loop.trips) (w c w' : BitVec 32) (k : Fin k0_t3_loop.trips)
    (fw : Buf (Elt F) ((wlV).view.loc (thr d L))) (fe : Buf (Elt F) ((beV).view.loc (thr d L))) (fo : Buf (Elt F) ((boV).view.loc (thr d L))) :
    (iprop(((wlV).view.loc (thr d L) ↦{fullShare} fw) ∗ ((beV).view.loc (thr d L) ↦{fullShare} fe) ∗ ((boV).view.loc (thr d L) ↦{fullShare} fo)) : sProp 𝕄)
      ⊢ wp frame (wpE (defs₀ (F := F)) 𝒱₀ (thr d L) none) Set.univ
          (k0_t3_body L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2 t w c w' k
            (carry fw (2 * t.val + 1) fe fo (16 * k.val)))
          fun r => iprop(⌜r = carry fw (2 * t.val + 1) fe fo (16 * (k.val + 1))⌝
            ∗ ((wlV).view.loc (thr d L) ↦{fullShare} fw) ∗ ((beV).view.loc (thr d L) ↦{fullShare} fe) ∗ ((boV).view.loc (thr d L) ↦{fullShare} fo)) := by
  unfold k0_t3_body carry
  iintro ⟨Hw, He, Ho⟩
  sl_exec_parts
  sl_step
  isplitr
  · ipureintro
    exact trip_carry (F := F) (wlV).view fw _ (k0_off29_inb t k) (beV).view (boV).view fe fo shapeCasts_S1x16_S16 (2 * t.val + 1) k.val (k0_off29_eq t k)
      (k0_off30_inb k) (k0_off31_inb k) (k0_off32_inb k) (k0_off33_inb k) (k0_off34_inb k) (k0_off35_inb k) (k0_off36_inb k) (k0_off37_inb k)
      (k0_off30_eq k) (k0_off31_eq k) (k0_off32_eq k) (k0_off33_eq k) (k0_off34_eq k) (k0_off35_eq k) (k0_off36_eq k) (k0_off37_eq k)
  isplitl [Hw]; · iexact Hw
  isplitl [He]; · iexact He
  iexact Ho

set_option maxRecDepth 16384 in
/-- One trip of the loop over the last query. -/
theorem trip4 (d : Dev nD) (L : grid0.Coords) (k : Fin k0_t4_loop.trips)
    (fw : Buf (Elt F) ((wlV).view.loc (thr d L))) (fe : Buf (Elt F) ((aeV).view.loc (thr d L))) (fo : Buf (Elt F) ((aoV).view.loc (thr d L))) :
    (iprop(((wlV).view.loc (thr d L) ↦{fullShare} fw) ∗ ((aeV).view.loc (thr d L) ↦{fullShare} fe) ∗ ((aoV).view.loc (thr d L) ↦{fullShare} fo)) : sProp 𝕄)
      ⊢ wp frame (wpE (defs₀ (F := F)) 𝒱₀ (thr d L) none) Set.univ
          (k0_t4_body L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2  k
            (carry fw 56 fe fo (16 * k.val)))
          fun r => iprop(⌜r = carry fw 56 fe fo (16 * (k.val + 1))⌝
            ∗ ((wlV).view.loc (thr d L) ↦{fullShare} fw) ∗ ((aeV).view.loc (thr d L) ↦{fullShare} fe) ∗ ((aoV).view.loc (thr d L) ↦{fullShare} fo)) := by
  unfold k0_t4_body carry
  iintro ⟨Hw, He, Ho⟩
  sl_exec_parts
  sl_step
  isplitr
  · ipureintro
    exact trip_carry (F := F) (wlV).view fw _ (k0_off55_inb k) (aeV).view (aoV).view fe fo shapeCasts_S1x16_S16 56 k.val (k0_off55_eq k)
      (k0_off56_inb k) (k0_off57_inb k) (k0_off58_inb k) (k0_off59_inb k) (k0_off60_inb k) (k0_off61_inb k) (k0_off62_inb k) (k0_off63_inb k)
      (k0_off56_eq k) (k0_off57_eq k) (k0_off58_eq k) (k0_off59_eq k) (k0_off60_eq k) (k0_off61_eq k) (k0_off62_eq k) (k0_off63_eq k)
  isplitl [Hw]; · iexact Hw
  isplitl [He]; · iexact He
  iexact Ho

set_option warn.classDefReducibility false in
/-- The loop over the even query's rows: the sums so far. -/
@[sl_loop] def loopInv2 (d : Dev nD) (L : grid0.Coords) (t : Fin k0_t1_loop.trips) (w : BitVec 32)
    (fw : Buf (Elt F) ((wlV).view.loc (thr d L))) (fe : Buf (Elt F) ((aeV).view.loc (thr d L))) (fo : Buf (Elt F) ((aoV).view.loc (thr d L))) :
    LoopInv (M := 𝕄) frame (wpE (defs₀ (F := F)) 𝒱₀ (thr d L) none) Set.univ k0_t2_loop.lb k0_t2_loop.ub k0_t2_loop.st k0_t2_ok
      (k0_pay577 (F := F), k0_pay578 (F := F), k0_pay579 (F := F), k0_pay580 (F := F), k0_pay581 (F := F), k0_pay582 (F := F), k0_pay583 (F := F), k0_pay584 (F := F), k0_pay585 (F := F), k0_pay586 (F := F), k0_pay587 (F := F), k0_pay588 (F := F), k0_pay589 (F := F), k0_pay590 (F := F), k0_pay591 (F := F), k0_pay592 (F := F))
      (k0_t2_body L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2 0#32 1#32 t w) where
  inv k acc := iprop(⌜acc = carry fw (2 * t.val) fe fo (16 * k)⌝
    ∗ ((wlV).view.loc (thr d L) ↦{fullShare} fw) ∗ ((aeV).view.loc (thr d L) ↦{fullShare} fe) ∗ ((aoV).view.loc (thr d L) ↦{fullShare} fo))
  step k acc := by
    iintro ⟨%h, H⟩
    subst h
    iapply (trip2 d L t w k fw fe fo); iexact H

set_option warn.classDefReducibility false in
/-- The loop over the odd query's rows: the sums so far. -/
@[sl_loop] def loopInv3 (d : Dev nD) (L : grid0.Coords) (t : Fin k0_t1_loop.trips) (w c w' : BitVec 32)
    (fw : Buf (Elt F) ((wlV).view.loc (thr d L))) (fe : Buf (Elt F) ((beV).view.loc (thr d L))) (fo : Buf (Elt F) ((boV).view.loc (thr d L))) :
    LoopInv (M := 𝕄) frame (wpE (defs₀ (F := F)) 𝒱₀ (thr d L) none) Set.univ k0_t3_loop.lb k0_t3_loop.ub k0_t3_loop.st k0_t3_ok
      (k0_pay756 (F := F), k0_pay757 (F := F), k0_pay758 (F := F), k0_pay759 (F := F), k0_pay760 (F := F), k0_pay761 (F := F), k0_pay762 (F := F), k0_pay763 (F := F), k0_pay764 (F := F), k0_pay765 (F := F), k0_pay766 (F := F), k0_pay767 (F := F), k0_pay768 (F := F), k0_pay769 (F := F), k0_pay770 (F := F), k0_pay771 (F := F))
      (k0_t3_body L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2 t w c w') where
  inv k acc := iprop(⌜acc = carry fw (2 * t.val + 1) fe fo (16 * k)⌝
    ∗ ((wlV).view.loc (thr d L) ↦{fullShare} fw) ∗ ((beV).view.loc (thr d L) ↦{fullShare} fe) ∗ ((boV).view.loc (thr d L) ↦{fullShare} fo))
  step k acc := by
    iintro ⟨%h, H⟩
    subst h
    iapply (trip3 d L t w c w' k fw fe fo); iexact H

set_option warn.classDefReducibility false in
/-- The loop over the last query's rows: the sums so far. -/
@[sl_loop] def loopInv4 (d : Dev nD) (L : grid0.Coords)
    (fw : Buf (Elt F) ((wlV).view.loc (thr d L))) (fe : Buf (Elt F) ((aeV).view.loc (thr d L))) (fo : Buf (Elt F) ((aoV).view.loc (thr d L))) :
    LoopInv (M := 𝕄) frame (wpE (defs₀ (F := F)) 𝒱₀ (thr d L) none) Set.univ k0_t4_loop.lb k0_t4_loop.ub k0_t4_loop.st k0_t4_ok
      (k0_pay1227 (F := F), k0_pay1228 (F := F), k0_pay1229 (F := F), k0_pay1230 (F := F), k0_pay1231 (F := F), k0_pay1232 (F := F), k0_pay1233 (F := F), k0_pay1234 (F := F), k0_pay1235 (F := F), k0_pay1236 (F := F), k0_pay1237 (F := F), k0_pay1238 (F := F), k0_pay1239 (F := F), k0_pay1240 (F := F), k0_pay1241 (F := F), k0_pay1242 (F := F))
      (k0_t4_body L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2 ) where
  inv k acc := iprop(⌜acc = carry fw 56 fe fo (16 * k)⌝
    ∗ ((wlV).view.loc (thr d L) ↦{fullShare} fw) ∗ ((aeV).view.loc (thr d L) ↦{fullShare} fe) ∗ ((aoV).view.loc (thr d L) ↦{fullShare} fo))
  step k acc := by
    iintro ⟨%h, H⟩
    subst h
    iapply (trip4 d L k fw fe fo); iexact H

end Cert.Proof.KernelIdeal

end
-- ==== Proof.IPair.lean ====
/-
  One trip of the loop over pairs of queries: the gathers of the odd query's rows and of the next pair's first rows, and
  the two queries' weighted sums stored into the subcore's results.
-/
module

public import proofs.«01_k».proof.Proof.ITrip
public import proofs.«01_k».proof.Proof.Stores

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

open Cert.Proof.Acc Idealize.ShloMosaic.ValueIdx

/-- Element `x` of the window of 72 row numbers at row `q` of the subcore's list. -/
theorem list_row {d : Dev nD} {L : grid0.Coords} (fi : Buf (Elt F) ((ilV).view.loc (thr d L))) (off : Fin 2 → ℕ) (q : ℕ) (e : off = ![q, 0])
    (inb : ∀ a, off a + S1x72.size a ≤ S64x128.size a) (hr) (x : S72.Idx) :
    (((ilV).slice (Rect.unit (s := S64x128) off S1x72.size inb) hr).squeeze S72 squeezes_S1x72_S72).view.read (Elt F) fi x = tot (m := 64) (n := 128) fi q (x 0).val := by
  subst e
  have hx : (x 0).val < 72 := (x 0).isLt
  have hq : q + 1 ≤ 64 := inb 0
  show fi ((Rect.unit (s := S64x128) ![q, 0] S1x72.size inb).emb (Shape.reshapeEquiv squeezes_S1x72_S72.numel_eq x)) = _
  rw [Shape.reshapeEquiv_eq_of_rowMajor squeezes_S1x72_S72.numel_eq (x := x) (y := (ix2 0 (x 0) : S1x72.Idx)) (by
    rw [Shape.rowMajor_val_two, Shape.rowMajor_val_one]
    show 0 * 72 + (x 0).val = (x 0).val
    omega)]
  refine congrArg fi (funext fun a => Fin.ext ?_)
  match a with
  | 0 => show q + 1 * 0 = q % 64; rw [Nat.mod_eq_of_lt (by omega)]; omega
  | 1 => show 0 + 1 * (x 0).val = (x 0).val % 128; rw [Nat.mod_eq_of_lt (by omega)]; omega

/-- What an indirect gather brings: the rows its list names. -/
theorem gathered (G : S98304x128.Idx → F .f32) (G' : S98304x128.Idx → F .f32) (hG : G' = G) (J : S64x128.Idx → BitVec 32) (I : S72.Idx → BitVec 32) (q : ℕ)
    (hI : ∀ x, I x = tot (m := 64) (n := 128) J q (x 0).val) (hn : S72.numel = S72x128.size gathers_S98304x128_S72x128.axis')
    (h : ∀ x, (I x).toNat < S98304x128.size gathers_S98304x128_S72x128.axis) :
    SparseCore.gatherPayload (F := F) (e := .f32) gathers_S98304x128_S72x128 G' (SparseCore.rows (F := F) I hn h) = gat G J q := by
  subst hG
  funext x
  refine congrArg G' (funext fun a => Fin.ext ?_)
  have hx1 : (x 1).val < 128 := (x 1).isLt
  match a with
  | 0 =>
    have hk : ((S72.rowMajor.symm ((x 0).cast hn.symm)) 0).val = (x 0).val := by
      rw [← Shape.rowMajor_val_one (d := ![72]), Equiv.apply_symm_apply]; rfl
    have hlt := h (S72.rowMajor.symm ((x 0).cast hn.symm))
    refine (congrArg Fin.val (Shape.Gathers.idx_axis gathers_S98304x128_S72x128 (SparseCore.rows (F := F) I hn h) x)).trans ?_
    show (I (S72.rowMajor.symm ((x 0).cast hn.symm))).toNat = (tot (m := 64) (n := 128) J q (x 0).val).toNat % 98304
    rw [hI, hk] at hlt ⊢
    exact (Nat.mod_eq_of_lt hlt).symm
  | 1 =>
    refine (Shape.Gathers.idx_of_ne gathers_S98304x128_S72x128 _ x (1 : Fin 2) (by decide)).trans ?_
    show (x 1).val = (x 1).val % 128
    exact (Nat.mod_eq_of_lt hx1).symm

/-- The whole of a table, taken as a slice, is the table. -/
theorem table_read {s : Space} (m : Memref sig .scVector s S98304x128 .f32) (f : m.view.ty.Contents (Elt F)) (inb) (hr) :
    (m.slice (Rect.unit (s := S98304x128) ![0, 0] S98304x128.size inb) hr).view.read (Elt F) f = m.view.read (Elt F) f := by
  funext x
  refine congrArg (m.view.read (Elt F) f) (funext fun a => Fin.ext ?_)
  match a with
  | 0 => show 0 + 1 * (x 0).val = (x 0).val; omega
  | 1 => show 0 + 1 * (x 1).val = (x 1).val; omega

theorem tail_inb (c : Fin 8) (j : Fin 8) (a : Fin 2) : (![64 + j.val, 16 * c.val] : Fin 2 → ℕ) a + L1x16.size a ≤ (⟨2, ![72, 128]⟩ : Shape).size a := by
  match a with
  | 0 => show 64 + j.val + 1 ≤ 72; omega
  | 1 => show 16 * c.val + 16 ≤ 128; omega

/-- The results' row of one query, stored after the eight last rows: the query's combination there, the rest untouched. -/
theorem query_row (d : Dev nD) (L : grid0.Coords) (Q : ℕ) (fw : Buf (Elt F) ((wlV).view.loc (thr d L)))
    {ve vo : View sig .scVector .vmem S72x128 .f32} (fe : ve.ty.Contents (Elt F)) (fo : vo.ty.Contents (Elt F))
    (gE gO : S98304x128.Idx → F .f32) (fi : S64x128.Idx → BitVec 32)
    (he : ve.read (Elt F) fe = gat gE fi Q) (ho : vo.read (Elt F) fo = gat gO fi Q)
    (offw : Fin 2 → ℕ) (inbw : ∀ a, offw a + L1x16.size a ≤ S64x128.size a) (ew : offw = ![Q, 64])
    (o : Fin 2 → Fin 8 → Fin 3 → ℕ) (inb : ∀ a c, ∀ i, o a c i + L1x1x16.size i ≤ LOut.size i) (eo : ∀ a c, o a c = ![Q, a.val, 16 * c.val])
    (ol : Buf (Elt F) ((olV).view.loc (thr d L))) (L' : List (View.Piece (Elt F) LOut .f32)) (y : LOut.Idx) :
    (olV).view.read (Elt F) ((olV).view.writes (Elt F) ol (rowStores o inb shapeCasts_S16_S1x1x16
      (![fun c => tail (wlV).view fw offw inbw ve fe c.val (tail_inb c) shapeCasts_S1x16_S16 (wsum ((wlV).view.read (Elt F) fw) Q (ve.read (Elt F) fe) c.val 64),
      fun c => tail (wlV).view fw offw inbw vo fo c.val (tail_inb c) shapeCasts_S1x16_S16 (wsum ((wlV).view.read (Elt F) fw) Q (vo.read (Elt F) fo) c.val 64)]) L')) y
      = if (y 0).val = Q then comb fw gE gO fi y else (olV).view.read (Elt F) ((olV).view.writes (Elt F) ol L') y := by
  refine (read_row (F := F) (olV).view ol Q o inb eo shapeCasts_S16_S1x1x16
    (![fun c => tail (wlV).view fw offw inbw ve fe c.val (tail_inb c) shapeCasts_S1x16_S16 (wsum ((wlV).view.read (Elt F) fw) Q (ve.read (Elt F) fe) c.val 64),
      fun c => tail (wlV).view fw offw inbw vo fo c.val (tail_inb c) shapeCasts_S1x16_S16 (wsum ((wlV).view.read (Elt F) fw) Q (vo.read (Elt F) fo) c.val 64)])
    (fun a c => wsum fw Q (gat (if a = 0 then gE else gO) fi Q) c 72)
    (by
      intro a c
      match a with
      | 0 => exact (tail_eq (wlV).view fw offw inbw ve fe c.val _ _ Q ew).trans (by rw [he]; rfl)
      | 1 => exact (tail_eq (wlV).view fw offw inbw vo fo c.val _ _ Q ew).trans (by rw [ho]; rfl))
    L' y).trans ?_
  split
  · rename_i hy; unfold comb; rw [hy]
  · rfl

/-- What the loop over pairs holds before pair `k`: the tables and the list in read shares, the even query's rows already
    gathered, the odd query's buffers at anything, the results of the queries so far, and the four semaphores at zero. -/
def pairInv (d : Dev nD) (L : grid0.Coords) (q : PosShare TreeShare) (O : CellTallies nD τ sig (HIx 1)) (W : Waits sig (HIx 1))
    (gE : Buf (Elt F) ((teV).view.loc (thr d L))) (gO : Buf (Elt F) ((toV).view.loc (thr d L)))
    (fi : Buf (Elt F) ((ilV).view.loc (thr d L))) (fw : Buf (Elt F) ((wlV).view.loc (thr d L))) (k : ℕ) : sProp 𝕄 :=
  iprop(∃ be bo ol W', ⌜∀ p ∈ W', p ∈ W ∨ p.2 = none⌝ ∗ ⌜∀ y : S64x2x128.Idx, (y 0).val < 2 * k → (olV).view.read (Elt F) ol y = comb fw gE gO fi y⌝
      ∗ Transfers.MayWaits (thr d L) (default : HIx 1) O
      ∗ ((teV).view.loc (thr d L) ↦{q.left} gE) ∗ ((teV).view.loc (thr d L) ↦{q.right} gE)
      ∗ ((toV).view.loc (thr d L) ↦{q.left} gO) ∗ ((toV).view.loc (thr d L) ↦{q.right} gO)
      ∗ ((ilV).view.loc (thr d L) ↦{fullShare.left.left} fi) ∗ ((ilV).view.loc (thr d L) ↦{fullShare.left.right} fi)
      ∗ ((ilV).view.loc (thr d L) ↦{fullShare.right.left} fi) ∗ ((ilV).view.loc (thr d L) ↦{fullShare.right.right} fi)
      ∗ ((wlV).view.loc (thr d L) ↦{fullShare} fw)
      ∗ ((aeV).view.loc (thr d L) ↦{fullShare} gat gE fi (2 * k)) ∗ ((aoV).view.loc (thr d L) ↦{fullShare} gat gO fi (2 * k))
      ∗ ((beV).view.loc (thr d L) ↦{fullShare} be) ∗ ((boV).view.loc (thr d L) ↦{fullShare} bo) ∗ ((olV).view.loc (thr d L) ↦{fullShare} ol)
      ∗ semVal (thr d L, SemLoc.dma cc0_scratch7.sem) 0 ∗ semVal (thr d L, SemLoc.dma cc0_scratch8.sem) 0
      ∗ semVal (thr d L, SemLoc.dma cc0_scratch9.sem) 0 ∗ semVal (thr d L, SemLoc.dma cc0_scratch10.sem) 0
      ∗ owes (thr d L) O W')

set_option maxRecDepth 16384 in
set_option maxHeartbeats 4000000 in
/-- One pair: the queries `2 t` and `2 t + 1`. -/
theorem pair (d : Dev nD) (L : grid0.Coords) (t : Fin k0_t1_loop.trips) (q : PosShare TreeShare)
    (O : CellTallies nD τ sig (HIx 1)) (W : Waits sig (HIx 1))
    (gE : Buf (Elt F) ((teV).view.loc (thr d L))) (gO : Buf (Elt F) ((toV).view.loc (thr d L)))
    (fi : Buf (Elt F) ((ilV).view.loc (thr d L))) (hfi : InTable fi) (fw : Buf (Elt F) ((wlV).view.loc (thr d L))) :
    (pairInv d L q O W gE gO fi fw t.val : sProp 𝕄)
      ⊢ wp frame (wpE (defs₀ (F := F)) 𝒱₀ (thr d L) none) Set.univ
          (k0_t1_body L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2 t ⟨⟩)
          fun _ => pairInv d L q O W gE gO fi fw (t.val + 1) := by
  unfold pairInv k0_t1_body
  iintro ⟨%be, %bo, %ol, %W', %hW', %hol, Hmw, HE1, HE2, HO1, HO2, Hi1, Hi2, Hi3, Hi4, Hw, Hae, Hao, Hbe, Hbo, Hol, Hs7, Hs8, Hs9, Hs10, How⟩
  have hin : ∀ (off : Fin 2 → ℕ) (inb : ∀ a, off a + S1x72.size a ≤ S64x128.size a) hr (x : S72.Idx),
      ((((ilV).slice (Rect.unit (s := S64x128) off S1x72.size inb) hr).squeeze S72 squeezes_S1x72_S72).view.read (Elt F) fi x).toNat < S98304x128.size gathers_S98304x128_S72x128.axis :=
    fun _ _ _ _ => hfi _
  sl_exec_parts
  have hae : (aeV).view.writes (Elt F) (gat gE fi (2 * t.val)) [⟨Rect.whole S72x128, pair.sl.gather161 d L t gE fi hin⟩] = gat gE fi (2 * (t.val + 1)) :=
    (View.read_writes_whole (aeV).view _ _).trans (gathered _ _ (table_read teV gE _ _) fi _ _ (list_row fi _ _ (k0_off2_eq t 1) _ _) _ _)
  have hao : (aoV).view.writes (Elt F) (gat gO fi (2 * t.val)) [⟨Rect.whole S72x128, pair.sl.gather162 d L t gO fi hin⟩] = gat gO fi (2 * (t.val + 1)) :=
    (View.read_writes_whole (aoV).view _ _).trans (gathered _ _ (table_read toV gO _ _) fi _ _ (list_row fi _ _ (k0_off2_eq t 1) _ _) _ _)
  have hodd := fun f L' y => query_row d L (2 * t.val + 1) fw (ve := (beV).view) (vo := (boV).view) _ _ gE gO fi
    ((View.read_writes_whole (beV).view (beV).view.junk (pair.sl.gather0 d L t gE fi hin)).trans (gathered _ _ (table_read teV gE _ _) fi _ _ (list_row fi _ _ (k0_off2_eq t 0) _ _) _ _))
    ((View.read_writes_whole (boV).view (boV).view.junk (pair.sl.gather1 d L t gO fi hin)).trans (gathered _ _ (table_read toV gO _ _) fi _ _ (list_row fi _ _ (k0_off2_eq t 0) _ _) _ _))
    (k0_off38 t) (k0_off38_inb t) (k0_off38_eq t)
    (![![k0_off39 t, k0_off40 t, k0_off41 t, k0_off42 t, k0_off43 t, k0_off44 t, k0_off45 t, k0_off46 t], ![k0_off47 t, k0_off48 t, k0_off49 t, k0_off50 t, k0_off51 t, k0_off52 t, k0_off53 t, k0_off54 t]])
    (fun a c => match a, c with | 0, 0 => k0_off39_inb t | 0, 1 => k0_off40_inb t | 0, 2 => k0_off41_inb t | 0, 3 => k0_off42_inb t | 0, 4 => k0_off43_inb t | 0, 5 => k0_off44_inb t | 0, 6 => k0_off45_inb t | 0, 7 => k0_off46_inb t | 1, 0 => k0_off47_inb t | 1, 1 => k0_off48_inb t | 1, 2 => k0_off49_inb t | 1, 3 => k0_off50_inb t | 1, 4 => k0_off51_inb t | 1, 5 => k0_off52_inb t | 1, 6 => k0_off53_inb t | 1, 7 => k0_off54_inb t)
    (fun a c => match a, c with | 0, 0 => k0_off39_eq t | 0, 1 => k0_off40_eq t | 0, 2 => k0_off41_eq t | 0, 3 => k0_off42_eq t | 0, 4 => k0_off43_eq t | 0, 5 => k0_off44_eq t | 0, 6 => k0_off45_eq t | 0, 7 => k0_off46_eq t | 1, 0 => k0_off47_eq t | 1, 1 => k0_off48_eq t | 1, 2 => k0_off49_eq t | 1, 3 => k0_off50_eq t | 1, 4 => k0_off51_eq t | 1, 5 => k0_off52_eq t | 1, 6 => k0_off53_eq t | 1, 7 => k0_off54_eq t)
    f L' y
  have heven := fun f L' y => query_row d L (2 * t.val) fw (ve := (aeV).view) (vo := (aoV).view) (gat gE fi (2 * t.val)) (gat gO fi (2 * t.val)) gE gO fi rfl rfl
    (k0_off12 t) (k0_off12_inb t) (k0_off12_eq t)
    (![![k0_off13 t, k0_off14 t, k0_off15 t, k0_off16 t, k0_off17 t, k0_off18 t, k0_off19 t, k0_off20 t], ![k0_off21 t, k0_off22 t, k0_off23 t, k0_off24 t, k0_off25 t, k0_off26 t, k0_off27 t, k0_off28 t]])
    (fun a c => match a, c with | 0, 0 => k0_off13_inb t | 0, 1 => k0_off14_inb t | 0, 2 => k0_off15_inb t | 0, 3 => k0_off16_inb t | 0, 4 => k0_off17_inb t | 0, 5 => k0_off18_inb t | 0, 6 => k0_off19_inb t | 0, 7 => k0_off20_inb t | 1, 0 => k0_off21_inb t | 1, 1 => k0_off22_inb t | 1, 2 => k0_off23_inb t | 1, 3 => k0_off24_inb t | 1, 4 => k0_off25_inb t | 1, 5 => k0_off26_inb t | 1, 6 => k0_off27_inb t | 1, 7 => k0_off28_inb t)
    (fun a c => match a, c with | 0, 0 => k0_off13_eq t | 0, 1 => k0_off14_eq t | 0, 2 => k0_off15_eq t | 0, 3 => k0_off16_eq t | 0, 4 => k0_off17_eq t | 0, 5 => k0_off18_eq t | 0, 6 => k0_off19_eq t | 0, 7 => k0_off20_eq t | 1, 0 => k0_off21_eq t | 1, 1 => k0_off22_eq t | 1, 2 => k0_off23_eq t | 1, 3 => k0_off24_eq t | 1, 4 => k0_off25_eq t | 1, 5 => k0_off26_eq t | 1, 6 => k0_off27_eq t | 1, 7 => k0_off28_eq t)
    f L' y
  sl_step
  iexists _, _, _, _
  isplitr
  swap
  isplitr
  swap
  isplitl [Hmw]; · iexact Hmw
  isplitl [HE1]; · iexact HE1
  isplitl [HE2]; · iexact HE2
  isplitl [HO1]; · iexact HO1
  isplitl [HO2]; · iexact HO2
  isplitl [Hi1]; · iexact Hi1
  isplitl [Hi2]; · iexact Hi2
  isplitl [Hi3]; · iexact Hi3
  isplitl [Hi4]; · iexact Hi4
  isplitl [Hw]; · iexact Hw
  isplitl [Hae]; · rw [← hae]; iexact Hae
  isplitl [Hao]; · rw [← hao]; iexact Hao
  isplitl [Hbe]; · iexact Hbe
  isplitl [Hbo]; · iexact Hbo
  isplitl [Hol]; · iexact Hol
  isplitl [Hs7]; · iexact Hs7
  isplitl [Hs8]; · iexact Hs8
  isplitl [Hs9]; · iexact Hs9
  isplitl [Hs10]; · iexact Hs10
  iexact How
  · ipureintro
    intro y hy
    refine (hodd _ _ y).trans ?_
    split
    · rfl
    refine (heven _ _ y).trans ?_
    split
    · rfl
    exact hol y (by omega)
  · ipureintro
    simp only [Finset.mem_insert, Set.mem_insert_iff]
    rintro p (rfl | rfl | rfl | rfl | hp)
    · exact Or.inr rfl
    · exact Or.inr rfl
    · exact Or.inr rfl
    · exact Or.inr rfl
    · exact hW' p hp

end Cert.Proof.KernelIdeal

end
-- ==== Proof.ITile.lean ====
/-
  One vector subcore's task: the fetch of its list and its weights, the gathers of the first query's rows, the loop over
  pairs of queries, the last query, and the copy of its results out.
-/
module

public import proofs.«01_k».proof.Proof.IPair

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

open Cert.Proof.Acc Idealize.ShloMosaic.ValueIdx

/-- Row `w` of a three-axis array. -/
def row3 {α : Type} (f : S32x64x128.Idx → α) (w : ℕ) : S64x128.Idx → α := fun x => f (ix3 (Fin.ofNat 32 w) (x 0) (x 1))

/-- The number of the subcore at `L` among the thirty-two. -/
abbrev wid (L : grid0.Coords) : ℕ := 2 * (L 1).val + (L 0).val

omit [FloatOps F] in
/-- The row of the list or of the weights that the subcore fetches. -/
theorem row_read (L : grid0.Coords) {e : EltTy} (m : Memref sig .scVector .hbm S32x64x128 e) (f : m.view.ty.Contents (Elt F)) (hr) :
    ((m.slice (Rect.unit (s := S32x64x128) (k0_off1 L) S1x64x128.size (k0_off1_inb L)) hr).squeeze S64x128 squeezes_S1x64x128_S64x128).view.read (Elt F) f
      = row3 (m.view.read (Elt F) f) (wid L) := by
  funext x
  have h0 : (L 0).val < 2 := (L 0).isLt
  have h1 : (L 1).val < 16 := (L 1).isLt
  show m.view.read (Elt F) f ((Rect.unit (s := S32x64x128) (k0_off1 L) S1x64x128.size (k0_off1_inb L)).emb
    (Shape.reshapeEquiv squeezes_S1x64x128_S64x128.numel_eq x)) = _
  rw [Shape.reshapeEquiv_eq_of_rowMajor squeezes_S1x64x128_S64x128.numel_eq (x := x) (y := (ix3 0 (x 0) (x 1) : S1x64x128.Idx)) (by
    rw [Shape.rowMajor_val_two, Shape.rowMajor_val_three]
    show (0 * 64 + (x 0).val) * 128 + (x 1).val = (x 0).val * 128 + (x 1).val
    omega)]
  refine congrArg (m.view.read (Elt F) f) (funext fun a => Fin.ext ?_)
  match a with
  | 0 =>
    have e : k0_off1 L 0 = 2 * (L 1).val + (L 0).val := congrFun (k0_off1_eq L) 0
    show k0_off1 L 0 + 1 * 0 = (2 * (L 1).val + (L 0).val) % 32
    omega
  | 1 =>
    have e : k0_off1 L 1 = 0 := congrFun (k0_off1_eq L) 1
    show k0_off1 L 1 + 1 * (x 0).val = (x 0).val
    omega
  | 2 =>
    have e : k0_off1 L 2 = 0 := congrFun (k0_off1_eq L) 2
    show k0_off1 L 2 + 1 * (x 1).val = (x 1).val
    omega

omit [FloatOps F] in
/-- A read share of a buffer is its two halves. -/
theorem halves {ℓ : Loc nD τ sig} (q : PosShare TreeShare) (f : Buf (Elt F) ℓ) :
    (ℓ ↦{q} f : sProp 𝕄) = iprop((ℓ ↦{q.left} f) ∗ (ℓ ↦{q.right} f)) :=
  BI.Entails.antisymm (pointsTo_share (PosShare.mem_left_op_right q)).1 (pointsTo_share (PosShare.mem_left_op_right q)).2

theorem last_inb (a : Fin 2) (c : Fin 8) (i : Fin 3) : (![56, a.val, 16 * c.val] : Fin 3 → ℕ) i + L1x1x16.size i ≤ LOut.size i := by
  match i with
  | 0 => show 56 + 1 ≤ 64; omega
  | 1 => show a.val + 1 ≤ 2; omega
  | 2 => show 16 * c.val + 16 ≤ 128; omega

/-- The block of the results, and the row of the list and of the weights, that the subcore at `L` works on. -/
abbrev ouK (L : grid0.Coords) : Memref sig .scVector .hbm S64x2x128 .f32 :=
  ((ouV).slice (Rect.unit (s := S32x64x2x128) (k0_off64 L) S1x64x2x128.size (k0_off64_inb L)) (fun _ => rfl)).squeeze S64x2x128 squeezes_S1x64x2x128_S64x2x128

set_option maxRecDepth 16384 in
set_option maxHeartbeats 4000000 in
theorem body (d : Dev nD) (L : grid0.Coords) (q : PosShare TreeShare)
    (O : CellTallies nD τ sig (HIx 1)) (W : Waits sig (HIx 1))
    (gE : Buf (Elt F) ((teV).view.loc (thr d L))) (gO : Buf (Elt F) ((toV).view.loc (thr d L)))
    (ix : Buf (Elt F) ((ixV).view.loc (thr d L))) (wt : Buf (Elt F) ((wtV).view.loc (thr d L))) (ou : Buf (Elt F) ((ouV).view.loc (thr d L)))
    (hix : ∀ x, BitVec.toNat (ix x) < 98304) (fi : Buf (Elt F) ((ilV).view.loc (thr d L)))
    (fw : Buf (Elt F) ((wlV).view.loc (thr d L))) (fe : Buf (Elt F) ((aeV).view.loc (thr d L))) (fo : Buf (Elt F) ((aoV).view.loc (thr d L)))
    (be : Buf (Elt F) ((beV).view.loc (thr d L))) (bo : Buf (Elt F) ((boV).view.loc (thr d L)))
    (ol : Buf (Elt F) ((olV).view.loc (thr d L))) :
    (iprop(Transfers.MayWaits (thr d L) (default : HIx 1) O
      ∗ ((teV).view.loc (thr d L) ↦{q} gE)
      ∗ ((toV).view.loc (thr d L) ↦{q} gO)
      ∗ ((ixV).view.loc (thr d L) ↦{q} ix) ∗ ((wtV).view.loc (thr d L) ↦{q} wt)
      ∗ ((ouK L).view.loc (thr d L) ↦[(ouK L).view.set]{fullShare} ou)
      ∗ ((ilV).view.loc (thr d L) ↦{fullShare} fi)
      ∗ ((wlV).view.loc (thr d L) ↦{fullShare} fw) ∗ ((aeV).view.loc (thr d L) ↦{fullShare} fe) ∗ ((aoV).view.loc (thr d L) ↦{fullShare} fo)
      ∗ ((beV).view.loc (thr d L) ↦{fullShare} be) ∗ ((boV).view.loc (thr d L) ↦{fullShare} bo) ∗ ((olV).view.loc (thr d L) ↦{fullShare} ol)
      ∗ semVal (thr d L, SemLoc.dma cc0_scratch7.sem) 0 ∗ semVal (thr d L, SemLoc.dma cc0_scratch8.sem) 0
      ∗ semVal (thr d L, SemLoc.dma cc0_scratch9.sem) 0 ∗ semVal (thr d L, SemLoc.dma cc0_scratch10.sem) 0
      ∗ semVal (thr d L, SemLoc.dma cc0_scoped0.sem) 0 ∗ semVal (thr d L, SemLoc.dma cc0_scoped1.sem) 0 ∗ semVal (thr d L, SemLoc.dma cc0_scoped2.sem) 0
      ∗ owes (thr d L) O W) : sProp 𝕄)
      ⊢ wp frame (wpE (defs₀ (F := F)) 𝒱₀ (thr d L) none) Set.univ
          (cc0_k L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2)
          fun _ => iprop(((teV).view.loc (thr d L) ↦{q} gE) ∗ ((toV).view.loc (thr d L) ↦{q} gO)
            ∗ ((ixV).view.loc (thr d L) ↦{q} ix) ∗ ((wtV).view.loc (thr d L) ↦{q} wt)
            ∗ (∃ f, ⌜∀ y : S64x2x128.Idx, (y 0).val < 57 → (ouK L).view.read (Elt F) f y = comb (row3 wt (wid L)) gE gO (row3 ix (wid L)) y⌝
                ∗ ((ouK L).view.loc (thr d L) ↦[(ouK L).view.set]{fullShare} f))
            ∗ (∃ f, (ilV).view.loc (thr d L) ↦{fullShare} f)
            ∗ (∃ f, (wlV).view.loc (thr d L) ↦{fullShare} f) ∗ (∃ f, (aeV).view.loc (thr d L) ↦{fullShare} f) ∗ (∃ f, (aoV).view.loc (thr d L) ↦{fullShare} f)
            ∗ (∃ f, (beV).view.loc (thr d L) ↦{fullShare} f) ∗ (∃ f, (boV).view.loc (thr d L) ↦{fullShare} f) ∗ (∃ f, (olV).view.loc (thr d L) ↦{fullShare} f)
            ∗ semVal (thr d L, SemLoc.dma cc0_scratch7.sem) 0 ∗ semVal (thr d L, SemLoc.dma cc0_scratch8.sem) 0
            ∗ semVal (thr d L, SemLoc.dma cc0_scratch9.sem) 0 ∗ semVal (thr d L, SemLoc.dma cc0_scratch10.sem) 0
            ∗ semVal (thr d L, SemLoc.dma cc0_scoped0.sem) 0 ∗ semVal (thr d L, SemLoc.dma cc0_scoped1.sem) 0 ∗ semVal (thr d L, SemLoc.dma cc0_scoped2.sem) 0
            ∗ ∃ W', ⌜∀ p ∈ W', p ∈ W ∨ p.2 = none⌝ ∗ owes (thr d L) O W') := by
  rw [cc0_k_eq_skeleton]; unfold cc0_k_skel
  iintro ⟨Hmw, HE, HO, Hix, Hwt, Hou, Hil, Hw, Hae, Hao, Hbe, Hbo, Hol, Hs7, Hs8, Hs9, Hs10, Ht0, Ht1, Ht2, How⟩
  sl_exec_parts
  have e0 : View.write (Elt F) (ilV).view fi (body.sl.dma0 d L ix) Finset.univ = row3 ix (wid L) :=
    (View.write_whole_univ ..).trans (row_read L ixV ix _)
  have e1 : View.write (Elt F) (wlV).view fw (body.sl.dma0_1 d L wt) Finset.univ = row3 wt (wid L) :=
    (View.write_whole_univ ..).trans (row_read L wtV wt _)
  ihave Hil := (Entails.of_eq ((congrArg (fun f => ((ilV).view.loc (thr d L) ↦{fullShare} f : sProp 𝕄)) e0).trans
    ((halves (ℓ := (ilV).view.loc (thr d L)) fullShare (row3 ix (wid L))).trans
      (congrArg₂ (fun a b : sProp 𝕄 => iprop(a ∗ b)) (halves (ℓ := (ilV).view.loc (thr d L)) _ _) (halves (ℓ := (ilV).view.loc (thr d L)) _ _))))) $$ Hil
  ihave Hw := (Entails.of_eq (congrArg (fun f => ((wlV).view.loc (thr d L) ↦{fullShare} f : sProp 𝕄)) e1)) $$ Hw
  ihave HE := (Entails.of_eq (halves (F := F) (ℓ := (teV).view.loc (thr d L)) q gE)) $$ HE
  ihave HO := (Entails.of_eq (halves (F := F) (ℓ := (toV).view.loc (thr d L)) q gO)) $$ HO
  have hfi : InTable (row3 ix (wid L)) := fun x => hix _
  have hin : ∀ (off : Fin 2 → ℕ) (inb : ∀ a, off a + S1x72.size a ≤ S64x128.size a) hr (x : S72.Idx),
      ((((ilV).slice (Rect.unit (s := S64x128) off S1x72.size inb) hr).squeeze S72 squeezes_S1x72_S72).view.read (Elt F) (row3 ix (wid L)) x).toNat < S98304x128.size gathers_S98304x128_S72x128.axis :=
    fun _ _ _ _ => hfi _
  icases HE with ⟨HE1, HE2⟩
  icases HO with ⟨HO1, HO2⟩
  icases Hil with ⟨⟨Hi1, Hi2⟩, ⟨Hi3, Hi4⟩⟩
  sl_exec_parts
  have hae : (aeV).view.writes (Elt F) (aeV).view.junk [⟨Rect.whole S72x128, body.sl.gather0 d L gE ix hin⟩] = gat gE (row3 ix (wid L)) (2 * 0) :=
    (View.read_writes_whole (aeV).view _ _).trans (gathered _ _ (table_read teV gE _ _) (row3 ix (wid L)) _ _ (list_row (row3 ix (wid L)) _ _ rfl _ _) _ _)
  have hao : (aoV).view.writes (Elt F) (aoV).view.junk [⟨Rect.whole S72x128, body.sl.gather1 d L gO ix hin⟩] = gat gO (row3 ix (wid L)) (2 * 0) :=
    (View.read_writes_whole (aoV).view _ _).trans (gathered _ _ (table_read toV gO _ _) (row3 ix (wid L)) _ _ (list_row (row3 ix (wid L)) _ _ rfl _ _) _ _)
  sl_for (fun k (_ : PUnit) => pairInv d L q O W gE gO (row3 ix (wid L)) (row3 wt (wid L)) k) $$ [Hmw HE1 HE2 HO1 HO2 Hi1 Hi2 Hi3 Hi4 Hw Hae Hao Hbe Hbo Hol Hs7 Hs8 Hs9 Hs10 How]
  case region =>
    intro k _
    exact pair d L k q O W gE gO _ hfi _
  · unfold pairInv
    iexists _, _, _, _
    isplitr
    swap
    isplitr
    swap
    isplitl [Hmw]; · iexact Hmw
    isplitl [HE1]; · iexact HE1
    isplitl [HE2]; · iexact HE2
    isplitl [HO1]; · iexact HO1
    isplitl [HO2]; · iexact HO2
    isplitl [Hi1]; · iexact Hi1
    isplitl [Hi2]; · iexact Hi2
    isplitl [Hi3]; · iexact Hi3
    isplitl [Hi4]; · iexact Hi4
    isplitl [Hw]; · iexact Hw
    isplitl [Hae]
    · rw [← hae]; iexact Hae
    isplitl [Hao]
    · rw [← hao]; iexact Hao
    isplitl [Hbe]; · iexact Hbe
    isplitl [Hbo]; · iexact Hbo
    isplitl [Hol]; · iexact Hol
    isplitl [Hs7]; · iexact Hs7
    isplitl [Hs8]; · iexact Hs8
    isplitl [Hs9]; · iexact Hs9
    isplitl [Hs10]; · iexact Hs10
    iexact How
    · ipureintro
      intro y hy
      exact absurd hy (by omega)
    · ipureintro
      simp only [Finset.mem_insert]
      rintro p (rfl | rfl | rfl | rfl | hp)
      · exact Or.inr rfl
      · exact Or.inr rfl
      · exact Or.inr rfl
      · exact Or.inr rfl
      · exact Or.inl hp
  iintro %_ HI
  unfold pairInv
  icases HI with ⟨%be', %bo', %ol', %W', %hW', %hol, Hmw, HE1, HE2, HO1, HO2, Hi1, Hi2, Hi3, Hi4, Hw, Hae, Hao, Hbe, Hbo, Hol, Hs7, Hs8, Hs9, Hs10, How⟩
  sl_exec_parts
  have htr : 2 * Scf.trips k0_t1_loop.lb k0_t1_loop.ub k0_t1_loop.st = 56 := by decide
  have hlast := fun f L' y => query_row d L 56 (row3 wt (wid L)) (ve := (aeV).view) (vo := (aoV).view)
    (gat gE (row3 ix (wid L)) (2 * Scf.trips k0_t1_loop.lb k0_t1_loop.ub k0_t1_loop.st))
    (gat gO (row3 ix (wid L)) (2 * Scf.trips k0_t1_loop.lb k0_t1_loop.ub k0_t1_loop.st)) gE gO (row3 ix (wid L))
    (congrArg (gat gE (row3 ix (wid L))) htr) (congrArg (gat gO (row3 ix (wid L))) htr)
    ![56, 64] inb_S64x128_S1x16_56_64 rfl
    (fun a c => ![56, a.val, 16 * c.val])
    (fun a c i => last_inb a c i)
    (fun a c => rfl)
    f L' y
  have hout : ∀ y : S64x2x128.Idx, (y 0).val < 57 → body.sl.dma161 d L gE gO ix wt ol' y = comb (row3 wt (wid L)) gE gO (row3 ix (wid L)) y := by
    intro y hy
    refine (hlast _ _ y).trans ?_
    split
    · rfl
    · exact hol y (by omega)
  sl_step
  isplitl [HE1 HE2]
  · rw [halves q gE]
    isplitl [HE1]
    · iexact HE1
    · iexact HE2
  isplitl [HO1 HO2]
  · rw [halves q gO]
    isplitl [HO1]
    · iexact HO1
    · iexact HO2
  isplitl [Hix]; · iexact Hix
  isplitl [Hwt]; · iexact Hwt
  isplitl [Hou]
  · iexists _
    isplitr
    swap
    · iexact Hou
    · ipureintro
      intro y hy
      rw [View.read_writes_whole]
      exact hout y hy
  isplitl [Hi1 Hi2 Hi3 Hi4]
  · iexists (row3 ix (wid L))
    rw [halves (ℓ := (ilV).view.loc (thr d L)) fullShare (row3 ix (wid L)), halves (ℓ := (ilV).view.loc (thr d L)) fullShare.left (row3 ix (wid L)),
      halves (ℓ := (ilV).view.loc (thr d L)) fullShare.right (row3 ix (wid L))]
    isplitl [Hi1 Hi2]
    · isplitl [Hi1]; · iexact Hi1
      iexact Hi2
    isplitl [Hi3]; · iexact Hi3
    iexact Hi4
  isplitl [Hw]; · iexists _; iexact Hw
  isplitl [Hae]; · iexists _; iexact Hae
  isplitl [Hao]; · iexists _; iexact Hao
  isplitl [Hbe]; · iexists _; iexact Hbe
  isplitl [Hbo]; · iexists _; iexact Hbo
  isplitl [Hol]; · iexists _; iexact Hol
  isplitl [Hs7]; · iexact Hs7
  isplitl [Hs8]; · iexact Hs8
  isplitl [Hs9]; · iexact Hs9
  isplitl [Hs10]; · iexact Hs10
  isplitl [Ht0]; · iexact Ht0
  isplitl [Ht1]; · iexact Ht1
  isplitl [Ht2]; · iexact Ht2
  iexists _
  isplitr
  swap
  · iexact How
  · ipureintro
    simp only [Finset.mem_insert]
    rintro p (rfl | hp)
    · exact Or.inr rfl
    · exact hW' p hp

end Cert.Proof.KernelIdeal

end
-- ==== Proof.IObl.lean ====
/-
  The obligation of the call's launch: what each of the thirty-two subcores is handed and hands back, the subcore's task
  from its own buffers and semaphores, and how the operands divide among the subcores and come together again.
-/
module

public import proofs.«01_k».proof.Proof.ITile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Cert.Proof.Acc Idealize.ShloMosaic.ValueIdx

/-! ## Shares of an array that every subcore reads -/

/-- The shares dealt from `q`: at each step the left half is dealt, and the rest of the deal is from the right half. -/
def share : (n : ℕ) → PosShare TreeShare → Fin (n + 1) → PosShare TreeShare
  | 0, q, _ => q
  | n + 1, q, i => Fin.cases q.left (share n q.right) i

/-- A read share of an array is the shares dealt from it. -/
theorem pointsTo_deal {ℓ : Loc nD τ sig} (f : Buf (Elt F) ℓ) :
    ∀ (n : ℕ) (q : PosShare TreeShare), (ℓ ↦{q} f : sProp 𝕄) = bigSep Finset.univ fun i : Fin (n + 1) => ℓ ↦{share n q i} f
  | 0, q => (bigSep_univ_of_subsingleton (0 : Fin 1) (Φ := fun i : Fin 1 => (ℓ ↦{share 0 q i} f : sProp 𝕄))).symm
  | n + 1, q => by
    rw [halves q f, Fin.univ_succ, Finset.cons_eq_insert, SparseCore.bigSep_insert' (by simp), bigSep_map, pointsTo_deal f n q.right]
    rfl

/-! ## What the call reads and writes -/

abbrev teLoc (d : Dev nD) : Loc nD τ sig := (SparseCore.T d).loc main_arg0
abbrev toLoc (d : Dev nD) : Loc nD τ sig := (SparseCore.T d).loc main_arg1
abbrev ixLoc (d : Dev nD) : Loc nD τ sig := (SparseCore.T d).loc main_v5
abbrev wtLoc (d : Dev nD) : Loc nD τ sig := (SparseCore.T d).loc main_v7
abbrev ouLoc (d : Dev nD) : Loc nD τ sig := (SparseCore.T d).loc main_v8

/-- The contents of the call's arrays when it starts. -/
structure Arrays (F : FTy → Type) where
  te : (d : Dev nD) → Buf (Elt F) (teLoc d)
  tod : (d : Dev nD) → Buf (Elt F) (toLoc d)
  ix : (d : Dev nD) → Buf (Elt F) (ixLoc d)
  wt : (d : Dev nD) → Buf (Elt F) (wtLoc d)
  ou : (d : Dev nD) → Buf (Elt F) (ouLoc d)

theorem odiv : 32 ∣ S32x64x2x128.size 0 := ⟨1, rfl⟩
/-- The elements of the results' block number `w`. -/
abbrev block (w : Fin 32) : Finset S32x64x2x128.Idx := ((ouV).view.slice (Rect.part (s := S32x64x2x128) (a₀ := 0) odiv w)).set

/-- The number of the subcore at `L`, as one of thirty-two. -/
abbrev widF (L : grid0.Coords) : Fin 32 := ⟨wid L, by
  have h0 : (L 0).val < 2 := (L 0).isLt
  have h1 : (L 1).val < 16 := (L 1).isLt
  show 2 * (L 1).val + (L 0).val < 32
  omega⟩

/-- The block the subcore addresses is the block of its number. -/
theorem set_ouK (L : grid0.Coords) : (ouK L).view.set = block (widF L) := by
  show (((ouV).view.slice (Rect.unit (s := S32x64x2x128) (k0_off64 L) S1x64x2x128.size (k0_off64_inb L))).reshape S64x2x128 squeezes_S1x64x2x128_S64x2x128.numel_eq).set
    = ((ouV).view.slice (Rect.part (s := S32x64x2x128) (a₀ := 0) odiv (widF L))).set
  rw [View.set_reshape]
  have e : Rect.unit (s := S32x64x2x128) (k0_off64 L) S1x64x2x128.size (k0_off64_inb L) = Rect.part (s := S32x64x2x128) (a₀ := 0) odiv (widF L) := by
    unfold Rect.part Rect.block
    congr 1 <;> funext a
    · rw [k0_off64_eq]
      match a with
      | 0 => simp [Shape.partIx, Shape.partSize]
      | 1 => simp [Shape.partIx, Shape.partSize]
      | 2 => simp [Shape.partIx, Shape.partSize]
      | 3 => simp [Shape.partIx, Shape.partSize]
    · match a with
      | 0 => simp [Shape.partSize]
      | 1 => simp [Shape.partSize]
      | 2 => simp [Shape.partSize]
      | 3 => simp [Shape.partSize]
  exact e ▸ rfl

/-- What the subcore reads of its block of the results is the array at the block's number. -/
theorem read_ouK (L : grid0.Coords) (f : (ouV).view.ty.Contents (Elt F)) (y : S64x2x128.Idx) :
    (ouK L).view.read (Elt F) f y = f (ix4 (widF L) (y 0) (y 1) (y 2)) := by
  have h0 : (L 0).val < 2 := (L 0).isLt
  have h1 : (L 1).val < 16 := (L 1).isLt
  show f ((Rect.unit (s := S32x64x2x128) (k0_off64 L) S1x64x2x128.size (k0_off64_inb L)).emb
    (Shape.reshapeEquiv squeezes_S1x64x2x128_S64x2x128.numel_eq y)) = _
  rw [Shape.reshapeEquiv_eq_of_rowMajor squeezes_S1x64x2x128_S64x2x128.numel_eq (x := y) (y := (ix4 0 (y 0) (y 1) (y 2) : S1x64x2x128.Idx)) (by
    rw [Shape.rowMajor_val_three, Shape.rowMajor_val_four]
    show ((0 * 64 + (y 0).val) * 2 + (y 1).val) * 128 + (y 2).val = ((y 0).val * 2 + (y 1).val) * 128 + (y 2).val
    omega)]
  refine congrArg f (funext fun a => Fin.ext ?_)
  match a with
  | 0 =>
    have e : k0_off64 L 0 = 2 * (L 1).val + (L 0).val := congrFun (k0_off64_eq L) 0
    show k0_off64 L 0 + 1 * 0 = 2 * (L 1).val + (L 0).val
    omega
  | 1 =>
    have e : k0_off64 L 1 = 0 := congrFun (k0_off64_eq L) 1
    show k0_off64 L 1 + 1 * (y 0).val = (y 0).val
    omega
  | 2 =>
    have e : k0_off64 L 2 = 0 := congrFun (k0_off64_eq L) 2
    show k0_off64 L 2 + 1 * (y 1).val = (y 1).val
    omega
  | 3 =>
    have e : k0_off64 L 3 = 0 := congrFun (k0_off64_eq L) 3
    show k0_off64 L 3 + 1 * (y 2).val = (y 2).val
    omega

variable [FloatOps F] (X : Arrays F)

/-! ## What the handshakes carry -/

/-- Block `w` of `f` holds the weighted sums of its fifty-seven queries. -/
def Done (d : Dev nD) (w : Fin 32) (f : Buf (Elt F) (ouLoc d)) : Prop :=
  ∀ y : S64x2x128.Idx, (y 0).val < 57 → f (ix4 w (y 0) (y 1) (y 2)) = comb (row3 (X.wt d) w.val) (X.te d) (X.tod d) (row3 (X.ix d) w.val) y

/-- The arrays that subcore `w` reads, at its share. -/
abbrev reads (d : Dev nD) (w : Fin 32) : sProp 𝕄 :=
  iprop((teLoc d ↦{share 31 fullShare w} X.te d) ∗ (toLoc d ↦{share 31 fullShare w} X.tod d)
    ∗ (ixLoc d ↦{share 31 fullShare w} X.ix d) ∗ (wtLoc d ↦{share 31 fullShare w} X.wt d))
/-- What subcore `w` is handed. -/
abbrev tileIn (d : Dev nD) (w : Fin 32) : sProp 𝕄 := iprop(reads X d w ∗ ouLoc d ↦[block w]{fullShare} X.ou d)
/-- What it hands back. -/
abbrev tileOut (d : Dev nD) (w : Fin 32) : sProp 𝕄 := iprop(reads X d w ∗ ∃ f, ⌜Done X d w f⌝ ∗ ouLoc d ↦[block w]{fullShare} f)

/-- The number of subcore `i` of core `c`. -/
abbrev num (c : Fin 2) (i : Fin 16) : Fin 32 := ⟨2 * i.val + c.val, by omega⟩

/-- Each core is handed what its sixteen subcores are, and hands back what they do. -/
def P : (K (F := F)).Pay (nD := nD) (Val := Elt F) (Name := ℕ) (U := UU) where
  st := fun q d c => match q with
    | 0 => bigSep Finset.univ fun i : Fin ((K (F := F)).nSub 0) => tileIn X d (num (Fin.cast nCore_zero c) (Fin.cast nSub_zero i))
  dn := fun q d c => match q with
    | 0 => bigSep Finset.univ fun i : Fin ((K (F := F)).nSub 0) => tileOut X d (num (Fin.cast nCore_zero c) (Fin.cast nSub_zero i))
  go := fun q d c i => match q with | 0 => tileIn X d (num (Fin.cast nCore_zero c) (Fin.cast nSub_zero i))
  td := fun q d c i => match q with | 0 => tileOut X d (num (Fin.cast nCore_zero c) (Fin.cast nSub_zero i))
  x := fun _ _ => iprop(emp)

instance P_storable : (P X).IsStorable where
  st q d c := match q with
    | 0 => (inferInstance : BI.Storable (upEmb : UEmb _ 𝕄)
      (bigSep Finset.univ fun i : Fin ((K (F := F)).nSub 0) => tileIn X d (num (Fin.cast nCore_zero c) (Fin.cast nSub_zero i))))
  dn q d c := match q with
    | 0 => (inferInstance : BI.Storable (upEmb : UEmb _ 𝕄)
      (bigSep Finset.univ fun i : Fin ((K (F := F)).nSub 0) => tileOut X d (num (Fin.cast nCore_zero c) (Fin.cast nSub_zero i))))
  go q d c i := match q with
    | 0 => (inferInstance : BI.Storable (upEmb : UEmb _ 𝕄) (tileIn X d (num (Fin.cast nCore_zero c) (Fin.cast nSub_zero i))))
  td q d c i := match q with
    | 0 => (inferInstance : BI.Storable (upEmb : UEmb _ 𝕄) (tileOut X d (num (Fin.cast nCore_zero c) (Fin.cast nSub_zero i))))

/-- A core's operands are its subcores', and its results theirs. -/
theorem vecSplit : (K (F := F)).VecSplit' (P X) 0 := by
  intro d c
  show (bigSep Finset.univ fun i : Fin ((K (F := F)).nSub 0) => tileIn X d (num (Fin.cast nCore_zero c) (Fin.cast nSub_zero i))) ⊢ |={Set.univ}=> iprop(
      (bigSep Finset.univ fun i : Fin ((K (F := F)).nSub 0) => tileIn X d (num (Fin.cast nCore_zero c) (Fin.cast nSub_zero i)))
      ∗ ((bigSep Finset.univ fun i : Fin ((K (F := F)).nSub 0) => tileOut X d (num (Fin.cast nCore_zero c) (Fin.cast nSub_zero i)))
          -∗ bigSep Finset.univ fun i : Fin ((K (F := F)).nSub 0) => tileOut X d (num (Fin.cast nCore_zero c) (Fin.cast nSub_zero i))))
  iintro H
  imodintro
  isplitl [H]
  · iexact H
  · iintro HO
    iexact HO

/-! ## The task from the subcore's own buffers and semaphores -/

/-- The task's semaphores. -/
abbrev mySems : Finset (SemLoc sig) :=
  {SemLoc.dma cc0_scratch7.sem, SemLoc.dma cc0_scratch8.sem, SemLoc.dma cc0_scratch9.sem, SemLoc.dma cc0_scratch10.sem,
    SemLoc.dma cc0_scoped0.sem, SemLoc.dma cc0_scoped1.sem, SemLoc.dma cc0_scoped2.sem}
/-- The task's buffers. -/
abbrev myBufs : Finset (Ref sig .scVector) := {cc0_scratch0, cc0_scratch1, cc0_scratch2, cc0_scratch3, cc0_scratch4, cc0_scratch5, cc0_scratch6}

abbrev semAt (d : Dev nD) (L : grid0.Coords) : SemLoc sig ↪ GSem nD τ sig := ⟨fun s => (thr d L, s), fun _ _ e => (Prod.mk.inj e).2⟩
abbrev bufAt (L : grid0.Coords) : Ref sig .scVector ↪ DevRef τ sig := ⟨(Proc.scVector (cV L) (jV L)).devRef, Proc.devRef_injective _⟩

omit [FloatOps F] in
/-- The subcore's semaphores at zero are the task's seven and the rest. -/
theorem ownSems0_V (d : Dev nD) (L : grid0.Coords) :
    (ownSems0 (thr d L) : sProp 𝕄)
      = iprop((semVal (thr d L, SemLoc.dma cc0_scratch7.sem) 0 ∗ semVal (thr d L, SemLoc.dma cc0_scratch8.sem) 0
          ∗ semVal (thr d L, SemLoc.dma cc0_scratch9.sem) 0 ∗ semVal (thr d L, SemLoc.dma cc0_scratch10.sem) 0
          ∗ semVal (thr d L, SemLoc.dma cc0_scoped0.sem) 0 ∗ semVal (thr d L, SemLoc.dma cc0_scoped1.sem) 0 ∗ semVal (thr d L, SemLoc.dma cc0_scoped2.sem) 0)
        ∗ bigSep (ownCells (thr d L) \ mySems.map (semAt d L)) fun g => semVal g 0) := by
  unfold SparseCore.Cfg.ownSems0
  have hsub : mySems.map (semAt d L) ⊆ ownCells (thr d L) := by
    intro g hg
    obtain ⟨s, hs, rfl⟩ := Finset.mem_map.mp hg
    exact mem_ownCells.mpr ⟨rfl, (by decide : ∀ s ∈ mySems, s.isScoped .scVector = true) s hs⟩
  rw [SparseCore.bigSep_sdiff_split' hsub, bigSep_map, SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

omit [FloatOps F] in
/-- The subcore's buffers at some contents are the task's seven and the rest. -/
theorem ownBufs_V (d : Dev nD) (L : grid0.Coords) :
    (ownBufs (thr d L) : sProp 𝕄)
      = iprop(((∃ f, (ilV).view.loc (thr d L) ↦{fullShare} f) ∗ (∃ f, (wlV).view.loc (thr d L) ↦{fullShare} f)
          ∗ (∃ f, (aeV).view.loc (thr d L) ↦{fullShare} f) ∗ (∃ f, (aoV).view.loc (thr d L) ↦{fullShare} f)
          ∗ (∃ f, (beV).view.loc (thr d L) ↦{fullShare} f) ∗ (∃ f, (boV).view.loc (thr d L) ↦{fullShare} f)
          ∗ (∃ f, (olV).view.loc (thr d L) ↦{fullShare} f))
        ∗ bigSep (ownRefs (τ := τ) (.scVector (cV L) (jV L)) \ myBufs.map (bufAt L)) fun b => iprop(∃ f, ((d, b) : Loc nD τ sig) ↦{fullShare} f)) := by
  unfold SparseCore.Cfg.ownBufs
  have hsub : myBufs.map (bufAt L) ⊆ ownRefs (τ := τ) (.scVector (cV L) (jV L)) := by
    intro b hb
    obtain ⟨r, hr, rfl⟩ := Finset.mem_map.mp hb
    simp only [myBufs, Finset.mem_insert, Finset.mem_singleton] at hr
    rcases hr with rfl | rfl | rfl | rfl | rfl | rfl | rfl <;> exact SparseCore.Cfg.mem_ownRefs_of_owner rfl
  refine (SparseCore.bigSep_sdiff_split' hsub).trans ?_
  rw [bigSep_map, SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- The rows named by the list are rows of the tables. -/
def InRange : Prop := ∀ (d : Dev nD) (x : S32x64x128.Idx), BitVec.toNat (X.ix d x) < 98304

set_option maxHeartbeats 1000000 in
/-- The task of the subcore at `L`. -/
theorem tile_body (hF : (K (F := F)).Facts) (hX : InRange X) (d : Dev nD) (L : grid0.Coords) (O : CellTallies nD τ sig (HIx 1))
    (W : Waits sig (HIx 1)) (hO : ∀ g, O g none = 0) :
    iprop(levAts (K (F := F)).L (K (F := F)).lev ∗ emp ∗ tileIn X d (widF L)
        ∗ scopedBufs (thr d L) ∗ scopedSems0 (thr d L) ∗ owes (thr d L) O W)
      ⊢ wp frame (wpE (defs₀ (F := F)) 𝒱₀ (thr d L) none) Set.univ
          (cc0_k L teV (Memref.isWhole_whole _) toV (Memref.isWhole_whole _) ixV (Memref.isWhole_whole _) wtV (Memref.isWhole_whole _)
            ouV (Memref.isWhole_whole _) ilV (Memref.isWhole_whole _) wlV (Memref.isWhole_whole _) aeV (Memref.isWhole_whole _) aoV (Memref.isWhole_whole _)
            beV (Memref.isWhole_whole _) boV (Memref.isWhole_whole _) olV (Memref.isWhole_whole _)
            cc0_scratch7 cc0_scratch8 cc0_scratch9 cc0_scratch10 cc0_scoped0 cc0_scoped1 cc0_scoped2)
          fun _ => iprop(tileOut X d (widF L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  have hblk : ∀ f : Buf (Elt F) (ouLoc d), (ouLoc d ↦[block (widF L)]{fullShare} f : sProp 𝕄)
      = ((ouK L).view.loc (thr d L) ↦[(ouK L).view.set]{fullShare} f) := by
    intro f
    rw [set_ouK]
  iintro ⟨#Hlv, -, ⟨⟨Ht, Hto, Hix, Hwt⟩, Hou⟩, ⟨⟨⟨%fi, Hil⟩, ⟨%fw, Hwl⟩, ⟨%fe, Hae⟩, ⟨%fo, Hao⟩, ⟨%be, Hbe⟩, ⟨%bo, Hbo⟩, ⟨%ol, Hol⟩⟩, Hbufs⟩,
    ⟨⟨H7, H8, H9, H10, Hs0, Hs1, Hs2⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hou' := (Entails.of_eq (hblk _)) $$ Hou
  ihave Hwp := (body d L (share 31 fullShare (widF L)) O W (X.te d) (X.tod d) (X.ix d) (X.wt d) (X.ou d) (hX d) fi fw fe fo be bo ol) $$
    [Hmw Ht Hto Hix Hwt Hou' Hil Hwl Hae Hao Hbe Hbo Hol H7 H8 H9 H10 Hs0 Hs1 Hs2 HO]
  · isplitl [Hmw]; · iexact Hmw
    isplitl [Ht]; · iexact Ht
    isplitl [Hto]; · iexact Hto
    isplitl [Hix]; · iexact Hix
    isplitl [Hwt]; · iexact Hwt
    isplitl [Hou']; · iexact Hou'
    isplitl [Hil]; · iexact Hil
    isplitl [Hwl]; · iexact Hwl
    isplitl [Hae]; · iexact Hae
    isplitl [Hao]; · iexact Hao
    isplitl [Hbe]; · iexact Hbe
    isplitl [Hbo]; · iexact Hbo
    isplitl [Hol]; · iexact Hol
    isplitl [H7]; · iexact H7
    isplitl [H8]; · iexact H8
    isplitl [H9]; · iexact H9
    isplitl [H10]; · iexact H10
    isplitl [Hs0]; · iexact Hs0
    isplitl [Hs1]; · iexact Hs1
    isplitl [Hs2]; · iexact Hs2
    iexact HO
  iapply (wp_wand_r frame _ _)
  isplitl [Hwp]; · iexact Hwp
  iintro %_ ⟨Ht, Hto, Hix, Hwt, ⟨%f, %hf, Hou⟩, Hil, Hwl, Hae, Hao, Hbe, Hbo, Hol, H7, H8, H9, H10, Hs0, Hs1, Hs2, HW⟩
  isplitl [Ht Hto Hix Hwt Hou]
  · isplitl [Ht Hto Hix Hwt]
    · isplitl [Ht]; · iexact Ht
      isplitl [Hto]; · iexact Hto
      isplitl [Hix]; · iexact Hix
      iexact Hwt
    · iexists f
      isplitr
      · ipureintro
        intro y hy
        exact (read_ouK L f y).symm.trans (hf y hy)
      · iapply (Entails.of_eq (hblk f).symm)
        iexact Hou
  isplitl [Hil Hwl Hae Hao Hbe Hbo Hol Hbufs]
  · isplitr [Hbufs]
    · isplitl [Hil]; · iexact Hil
      isplitl [Hwl]; · iexact Hwl
      isplitl [Hae]; · iexact Hae
      isplitl [Hao]; · iexact Hao
      isplitl [Hbe]; · iexact Hbe
      isplitl [Hbo]; · iexact Hbo
      iexact Hol
    · iexact Hbufs
  isplitl [H7 H8 H9 H10 Hs0 Hs1 Hs2 Hsems]
  · isplitr [Hsems]
    · isplitl [H7]; · iexact H7
      isplitl [H8]; · iexact H8
      isplitl [H9]; · iexact H9
      isplitl [H10]; · iexact H10
      isplitl [Hs0]; · iexact Hs0
      isplitl [Hs1]; · iexact Hs1
      iexact Hs2
    · iexact Hsems
  iexact HW

/-! ## The obligation -/

/-- Coordinates from a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- What the launch runs on a vector subcore. -/
theorem defs₀_vector (c : Fin τ.nSC) (s : Fin τ.nSub) :
    defs₀ (F := F) (.scVector c s) 0 ()
      = SparseCore.onTile hcore0 hsub0 (fun c s => cc0_k (coordsV c s) teV (Memref.isWhole_whole _) toV (Memref.isWhole_whole _)
          ixV (Memref.isWhole_whole _) wtV (Memref.isWhole_whole _)
          ouV (Memref.isWhole_whole _) ilV (Memref.isWhole_whole _) wlV (Memref.isWhole_whole _) aeV (Memref.isWhole_whole _) aoV (Memref.isWhole_whole _)
          beV (Memref.isWhole_whole _) boV (Memref.isWhole_whole _) olV (Memref.isWhole_whole _)
          cc0_scratch7 cc0_scratch8 cc0_scratch9 cc0_scratch10 cc0_scoped0 cc0_scoped1 cc0_scoped2) ⟨⟩ c s := rfl

omit [FloatOps F] in
/-- The waits of the task are among those the launch lets a task leave. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task's obligation at the launch. -/
theorem tileObl (hF : (K (F := F)).Facts) (hX : InRange X) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body X hF hX d (coordsV ⟨_, hci.1⟩ ⟨_, hci.2⟩) O W hO).trans (wp_mono frame _ _ fun _ => obl_post)

end Cert.Proof.KernelIdeal

end
-- ==== Proof.IMain.lean ====
/-
  The whole program: the host operations that pad the lists and the weights, the call, and the host operations that
  project its results and add the positional encoding.
-/
module

public import proofs.«01_k».proof.Proof.IObl

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Cert.Proof.Acc Idealize.ShloMosaic.ValueIdx

variable [FloatOps F] (m : (ℓ : Loc nD τ sig) → Buf (Elt F) ℓ) (ρ : Dev nD → PrngReg)

/-! ## The host operations -/

/-- The host operations before the call. -/
abbrev preOps : List (HloOp τ sig (Elt F)) :=
  [ StableHlo.nullary main_c (constantI S_ 32 0#32)
  , StableHlo.unary main_c main_v0 (broadcastInDim S24x72 ![] bcast_S_S24x72 : (⟨S_, .i32⟩ : BufTy).Contents (Elt F) → (⟨S24x72, .i32⟩ : BufTy).Contents (Elt F))
  , StableHlo.binary main_arg2 main_v0 main_v1 ((fun a b => concatenate S1824x72 0 [⟨S1800x72, a⟩, ⟨S24x72, b⟩] concatenates_S1800x72_S24x72_S1824x72_d0) : (⟨S1800x72, .i32⟩ : BufTy).Contents (Elt F) → (⟨S24x72, .i32⟩ : BufTy).Contents (Elt F) → (⟨S1824x72, .i32⟩ : BufTy).Contents (Elt F))
  , StableHlo.nullary main_cst (constant S_ .f32 0x00000000#32)
  , StableHlo.unary main_cst main_v2 (broadcastInDim S24x72 ![] bcast_S_S24x72 : (⟨S_, .f32⟩ : BufTy).Contents (Elt F) → (⟨S24x72, .f32⟩ : BufTy).Contents (Elt F))
  , StableHlo.binary main_arg3 main_v2 main_v3 ((fun a b => concatenate S1824x72 0 [⟨S1800x72, a⟩, ⟨S24x72, b⟩] concatenates_S1800x72_S24x72_S1824x72_d0) : (⟨S1800x72, .f32⟩ : BufTy).Contents (Elt F) → (⟨S24x72, .f32⟩ : BufTy).Contents (Elt F) → (⟨S1824x72, .f32⟩ : BufTy).Contents (Elt F))
  , StableHlo.reshape main_v1 main_v4 (rfl : (.i32 : EltTy) = .i32) shapeCasts_S1824x72_S32x57x72
  , StableHlo.nullary main_c_0 (constantI S_ 32 0#32)
  , StableHlo.TRef.unary (.of main_c_0 : StableHlo.TRef sig ⟨S_, .i32⟩) main_call0.v0 id
  , StableHlo.TRef.binary (.of main_v4 : StableHlo.TRef sig ⟨S32x57x72, .i32⟩) main_call0.v0 main_call0.v1 (fun x v => pad S32x64x128 ![0, 0, 0] ![0, 7, 56] ![0, 0, 0] x v pads_S32x57x72_S32x64x128_000_070_0560 h_S_)
  , StableHlo.reshape main_v3 main_v6 (rfl : (.f32 : EltTy) = .f32) shapeCasts_S1824x72_S32x57x72
  , StableHlo.nullary main_c_1 (constantI S_ 32 0#32)
  , StableHlo.TRef.unary (.of main_c_1 : StableHlo.TRef sig ⟨S_, .i32⟩) main_call1.v0 (sitofp .f32)
  , StableHlo.TRef.binary (.of main_v6 : StableHlo.TRef sig ⟨S32x57x72, .f32⟩) main_call1.v0 main_call1.v1 (fun x v => pad S32x64x128 ![0, 0, 0] ![0, 7, 56] ![0, 0, 0] x v pads_S32x57x72_S32x64x128_000_070_0560 h_S_) ]

/-- The host operations after the call. -/
abbrev postOps : List (HloOp τ sig (Elt F)) :=
  [ StableHlo.reshape main_v8 main_v9 (rfl : (.f32 : EltTy) = .f32) shapeCasts_S32x64x2x128_S32x64x256
  , StableHlo.unary main_v9 main_v10 ((extractStridedSlice S32x57x256 ![0, 0, 0] · slices_S32x64x256_S32x57x256_0_0_0) : (⟨S32x64x256, .f32⟩ : BufTy).Contents (Elt F) → (⟨S32x57x256, .f32⟩ : BufTy).Contents (Elt F))
  , StableHlo.reshape main_v10 main_v11 (rfl : (.f32 : EltTy) = .f32) shapeCasts_S32x57x256_S1824x256
  , StableHlo.unary main_v11 main_v12 ((extractStridedSlice S1800x256 ![0, 0] · slices_S1824x256_S1800x256_0_0) : (⟨S1824x256, .f32⟩ : BufTy).Contents (Elt F) → (⟨S1800x256, .f32⟩ : BufTy).Contents (Elt F))
  , StableHlo.reshape main_v12 main_v13 (rfl : (.f32 : EltTy) = .f32) shapeCasts_S1800x256_S2x900x256
  , StableHlo.unary main_arg5 main_v14 ((transpose S256x256 [1, 0] · transposes_S256x256_S256x256_1_0) : (⟨S256x256, .f32⟩ : BufTy).Contents (Elt F) → (⟨S256x256, .f32⟩ : BufTy).Contents (Elt F))
  , StableHlo.binary main_v13 main_v14 main_v15 ((fun l r => Host.dotGeneral dot_S2x900x256_S256x256_S2x900x256_2_0_01_1_n_n none l r) : (⟨S2x900x256, .f32⟩ : BufTy).Contents (Elt F) → (⟨S256x256, .f32⟩ : BufTy).Contents (Elt F) → (⟨S2x900x256, .f32⟩ : BufTy).Contents (Elt F))
  , StableHlo.unary main_arg6 main_v16 (broadcastInDim S1x1x256 ![2] bcast_S256_S1x1x256_2 : (⟨S256, .f32⟩ : BufTy).Contents (Elt F) → (⟨S1x1x256, .f32⟩ : BufTy).Contents (Elt F))
  , StableHlo.unary main_v16 main_v17 (broadcastInDim S2x900x256 ![0, 1, 2] bcast_S1x1x256_S2x900x256_0_1_2 : (⟨S1x1x256, .f32⟩ : BufTy).Contents (Elt F) → (⟨S2x900x256, .f32⟩ : BufTy).Contents (Elt F))
  , StableHlo.binary main_v15 main_v17 main_v18 (addf : (⟨S2x900x256, .f32⟩ : BufTy).Contents (Elt F) → (⟨S2x900x256, .f32⟩ : BufTy).Contents (Elt F) → (⟨S2x900x256, .f32⟩ : BufTy).Contents (Elt F))
  , StableHlo.nullary main_cst_2 (constant S_ .f32 0x00000000#32)
  , StableHlo.nullary main_cst_3 (constant S_ .f32 0x3F800000#32)
  , StableHlo.TRef.unary (.of main_cst_2 : StableHlo.TRef sig ⟨S_, .f32⟩) main_call2.v0 id
  , StableHlo.TRef.unary main_call2.v0 main_call2.v1 (broadcastInDim S2x900x3 ![] bcast_S_S2x900x3)
  , StableHlo.TRef.binary main_call2.v1 (.of main_arg4 : StableHlo.TRef sig ⟨S2x900x3, .f32⟩) main_call2.v2 maximumf
  , StableHlo.TRef.unary (.of main_cst_3 : StableHlo.TRef sig ⟨S_, .f32⟩) main_call2.v3 id
  , StableHlo.TRef.unary main_call2.v3 main_call2.v4 (broadcastInDim S2x900x3 ![] bcast_S_S2x900x3)
  , StableHlo.TRef.binary main_call2.v4 main_call2.v2 main_call2.v5 minimumf
  , StableHlo.nullary main_cst_4 (constant S_ .f32 0x3727C5AC#32)
  , StableHlo.TRef.unary (.of main_cst_4 : StableHlo.TRef sig ⟨S_, .f32⟩) main_call3.v0 id
  , StableHlo.TRef.unary main_call3.v0 main_call3.v1 (broadcastInDim S2x900x3 ![] bcast_S_S2x900x3)
  , StableHlo.TRef.binary main_call3.v1 (.of main_v19 : StableHlo.TRef sig ⟨S2x900x3, .f32⟩) main_call3.v2 maximumf
  , StableHlo.nullary main_cst_5 (constant S_ .f32 0x3F800000#32)
  , StableHlo.unary main_cst_5 main_v21 (broadcastInDim S2x900x3 ![] bcast_S_S2x900x3 : (⟨S_, .f32⟩ : BufTy).Contents (Elt F) → (⟨S2x900x3, .f32⟩ : BufTy).Contents (Elt F))
  , StableHlo.binary main_v21 main_v19 main_v22 (subf : (⟨S2x900x3, .f32⟩ : BufTy).Contents (Elt F) → (⟨S2x900x3, .f32⟩ : BufTy).Contents (Elt F) → (⟨S2x900x3, .f32⟩ : BufTy).Contents (Elt F))
  , StableHlo.nullary main_cst_6 (constant S_ .f32 0x3727C5AC#32)
  , StableHlo.TRef.unary (.of main_cst_6 : StableHlo.TRef sig ⟨S_, .f32⟩) main_call4.v0 id
  , StableHlo.TRef.unary main_call4.v0 main_call4.v1 (broadcastInDim S2x900x3 ![] bcast_S_S2x900x3)
  , StableHlo.TRef.binary main_call4.v1 (.of main_v22 : StableHlo.TRef sig ⟨S2x900x3, .f32⟩) main_call4.v2 maximumf
  , StableHlo.binary main_v20 main_v23 main_v24 (Host.divf : (⟨S2x900x3, .f32⟩ : BufTy).Contents (Elt F) → (⟨S2x900x3, .f32⟩ : BufTy).Contents (Elt F) → (⟨S2x900x3, .f32⟩ : BufTy).Contents (Elt F))
  , StableHlo.unary main_v24 main_v25 (Host.log : (⟨S2x900x3, .f32⟩ : BufTy).Contents (Elt F) → (⟨S2x900x3, .f32⟩ : BufTy).Contents (Elt F))
  , StableHlo.unary main_arg7 main_v26 ((transpose S3x256 [1, 0] · transposes_S256x3_S3x256_1_0) : (⟨S256x3, .f32⟩ : BufTy).Contents (Elt F) → (⟨S3x256, .f32⟩ : BufTy).Contents (Elt F))
  , StableHlo.binary main_v25 main_v26 main_v27 ((fun l r => Host.dotGeneral dot_S2x900x3_S3x256_S2x900x256_2_0_01_1_n_n none l r) : (⟨S2x900x3, .f32⟩ : BufTy).Contents (Elt F) → (⟨S3x256, .f32⟩ : BufTy).Contents (Elt F) → (⟨S2x900x256, .f32⟩ : BufTy).Contents (Elt F))
  , StableHlo.unary main_arg8 main_v28 (broadcastInDim S1x1x256 ![2] bcast_S256_S1x1x256_2 : (⟨S256, .f32⟩ : BufTy).Contents (Elt F) → (⟨S1x1x256, .f32⟩ : BufTy).Contents (Elt F))
  , StableHlo.unary main_v28 main_v29 (broadcastInDim S2x900x256 ![0, 1, 2] bcast_S1x1x256_S2x900x256_0_1_2 : (⟨S1x1x256, .f32⟩ : BufTy).Contents (Elt F) → (⟨S2x900x256, .f32⟩ : BufTy).Contents (Elt F))
  , StableHlo.binary main_v27 main_v29 main_v30 (addf : (⟨S2x900x256, .f32⟩ : BufTy).Contents (Elt F) → (⟨S2x900x256, .f32⟩ : BufTy).Contents (Elt F) → (⟨S2x900x256, .f32⟩ : BufTy).Contents (Elt F))
  , StableHlo.TRef.nullary main_call5.cst (constant S_ .f32 0x00000000#32)
  , StableHlo.TRef.unary main_call5.cst main_call5.v0 (broadcastInDim S2x900x256 ![] bcast_S_S2x900x256)
  , StableHlo.TRef.binary (.of main_v30 : StableHlo.TRef sig ⟨S2x900x256, .f32⟩) main_call5.v0 main_call5.v1 maximumf
  , StableHlo.unary main_arg9 main_v32 ((transpose S256x256 [1, 0] · transposes_S256x256_S256x256_1_0) : (⟨S256x256, .f32⟩ : BufTy).Contents (Elt F) → (⟨S256x256, .f32⟩ : BufTy).Contents (Elt F))
  , StableHlo.binary main_v31 main_v32 main_v33 ((fun l r => Host.dotGeneral dot_S2x900x256_S256x256_S2x900x256_2_0_01_1_n_n none l r) : (⟨S2x900x256, .f32⟩ : BufTy).Contents (Elt F) → (⟨S256x256, .f32⟩ : BufTy).Contents (Elt F) → (⟨S2x900x256, .f32⟩ : BufTy).Contents (Elt F))
  , StableHlo.unary main_arg10 main_v34 (broadcastInDim S1x1x256 ![2] bcast_S256_S1x1x256_2 : (⟨S256, .f32⟩ : BufTy).Contents (Elt F) → (⟨S1x1x256, .f32⟩ : BufTy).Contents (Elt F))
  , StableHlo.unary main_v34 main_v35 (broadcastInDim S2x900x256 ![0, 1, 2] bcast_S1x1x256_S2x900x256_0_1_2 : (⟨S1x1x256, .f32⟩ : BufTy).Contents (Elt F) → (⟨S2x900x256, .f32⟩ : BufTy).Contents (Elt F))
  , StableHlo.binary main_v33 main_v35 main_v36 (addf : (⟨S2x900x256, .f32⟩ : BufTy).Contents (Elt F) → (⟨S2x900x256, .f32⟩ : BufTy).Contents (Elt F) → (⟨S2x900x256, .f32⟩ : BufTy).Contents (Elt F))
  , StableHlo.binary main_v18 main_v36 main_v37 (addf : (⟨S2x900x256, .f32⟩ : BufTy).Contents (Elt F) → (⟨S2x900x256, .f32⟩ : BufTy).Contents (Elt F) → (⟨S2x900x256, .f32⟩ : BufTy).Contents (Elt F)) ]

/-- These operations name the program's arrays only. -/
theorem pre_sub : (preOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub ..⟩

/-- These operations leave no contents open. -/
theorem pre_fresh : (preOps : List (HloOp τ sig (Elt F))).Forall fun op => op.fresh = ∅ :=
  ⟨rfl, rfl, rfl, rfl, rfl, rfl, rfl, rfl, rfl, rfl, rfl, rfl, rfl, rfl⟩

/-- These operations name the program's arrays only. -/
theorem post_sub : (postOps : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub ..⟩

/-- These operations leave no contents open. -/
theorem post_fresh : (postOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The arrays these operations write. -/
abbrev preW : List (Ref sig .tc) := [main_c, main_v0, main_v1, main_cst, main_v2, main_v3, main_v4, main_c_0, main_call0.v0.ref, main_call0.v1.ref, main_v6, main_c_1, main_call1.v0.ref, main_call1.v1.ref]

theorem pre_writes : (preOps : List (HloOp τ sig (Elt F))).Forall fun op => op.writes ⊆ (preW.map (Proc.devRef (τ := τ) .tc)).toFinset :=
  StableHlo.forall_writes_sub_of_map rfl

/-- The arrays these operations write. -/
abbrev postW : List (Ref sig .tc) := [main_v9, main_v10, main_v11, main_v12, main_v13, main_v14, main_v15, main_v16, main_v17, main_v18, main_cst_2, main_cst_3, main_call2.v0.ref, main_call2.v1.ref, main_call2.v2.ref, main_call2.v3.ref, main_call2.v4.ref, main_call2.v5.ref, main_cst_4, main_call3.v0.ref, main_call3.v1.ref, main_call3.v2.ref, main_cst_5, main_v21, main_v22, main_cst_6, main_call4.v0.ref, main_call4.v1.ref, main_call4.v2.ref, main_v24, main_v25, main_v26, main_v27, main_v28, main_v29, main_v30, main_call5.cst.ref, main_call5.v0.ref, main_call5.v1.ref, main_v32, main_v33, main_v34, main_v35, main_v36, main_v37]

theorem post_writes : (postOps : List (HloOp τ sig (Elt F))).Forall fun op => op.writes ⊆ (postW.map (Proc.devRef (τ := τ) .tc)).toFinset :=
  StableHlo.forall_writes_sub_of_map rfl

/-- The program is the operations before the call, the call, and the operations after it. -/
theorem main_eq (d : Dev nD) :
    main (F := F) d = StableHlo.seq preOps >>= fun _ => (sc.run d 0 >>= fun _ => (StableHlo.seq postOps >>= fun _ => pure ⟨⟩)) := rfl

end Cert.Proof.KernelIdeal

end
-- ==== Proof.IRun.lean ====
/-
  The whole program's run: the arrays when the call starts, how they are dealt to the thirty-two subcores and come
  together again, and what the program leaves.
-/
module

public import proofs.«01_k».proof.Proof.IMain
public import Idealize.ShloMosaic.Lib.SparseCore.Quiescent

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Cert.Proof.Acc Idealize.ShloMosaic.ValueIdx

variable [FloatOps F]

/-! ## The operands and the results, over the thirty-two subcores -/

omit [FloatOps F] in
/-- A product over the two cores' sixteen subcores is one over the thirty-two. -/
theorem bigSep_tiles (Φ : Fin 32 → sProp 𝕄) :
    (bigSep Finset.univ fun c : Fin ((K (F := F)).nCore 0) => bigSep Finset.univ fun i : Fin ((K (F := F)).nSub 0) =>
      Φ (num (Fin.cast nCore_zero c) (Fin.cast nSub_zero i))) = bigSep Finset.univ Φ := by
  rw [bigSep_univ_equiv ((Equiv.prodComm (Fin 2) (Fin 16)).trans finProdFinEquiv) Φ, bigSep_univ_prod]
  refine bigSep_congr fun c _ => bigSep_congr fun i _ => congrArg Φ (Fin.ext ?_)
  show 2 * i.val + c.val = c.val + 2 * i.val
  omega

omit [FloatOps F] in
/-- A block is a part of the array along its first axis. -/
theorem block_eq (w : Fin 32) : block w = (Rect.part (s := S32x64x2x128) (a₀ := 0) odiv w).set := by
  show ((View.whole (main_v8_scv : Ref sig .scVector)).slice _).set = _
  rw [View.set_slice]; exact Finset.map_refl

omit [FloatOps F] in
/-- The blocks of different subcores have no element in common. -/
theorem block_disjoint : ∀ i ∈ (Finset.univ : Finset (Fin 32)), ∀ j ∈ (Finset.univ : Finset (Fin 32)), i ≠ j → Disjoint (block i) (block j) := by
  exact fun i _ j _ h => by rw [block_eq, block_eq]; exact Rect.part_disjoint odiv h

omit [FloatOps F] in
/-- The blocks are the whole array of results. -/
theorem block_cover : (Finset.univ : Finset (Fin 32)).biUnion block = Finset.univ := by
  exact (Finset.biUnion_congr rfl fun i _ => block_eq i).trans (Rect.biUnion_part odiv)

omit [FloatOps F] in
/-- The array of results is its blocks. -/
theorem out_blocks (d : Dev nD) (f : Buf (Elt F) (ouLoc d)) :
    (ouLoc d ↦{fullShare} f : sProp 𝕄) = bigSep Finset.univ fun w : Fin 32 => ouLoc d ↦[block w]{fullShare} f := by
  rw [← pointsTo_biUnion Finset.univ (ℓ := ouLoc d) block block_disjoint, block_cover]; try rfl

omit [FloatOps F] in
/-- Where an element of block `w` is. -/
theorem mem_block (w : Fin 32) (a : Fin 64) (b : Fin 2) (c : Fin 128) : (ix4 w a b c : S32x64x2x128.Idx) ∈ block w := by
  rw [block_eq, LoadRect.mem_set]
  intro x
  match x with
  | 0 => exact ⟨0, Nat.zero_lt_one, by simp [Shape.partIx, Shape.partSize]⟩
  | 1 => exact ⟨a.val, a.isLt, by simp [Shape.partIx, Shape.partSize]⟩
  | 2 => exact ⟨b.val, b.isLt, by simp [Shape.partIx, Shape.partSize]⟩
  | 3 => exact ⟨c.val, c.isLt, by simp [Shape.partIx, Shape.partSize]⟩

variable (X : Arrays F)

/-- What the call is handed on device `d` is its five arrays. -/
theorem st_eq (d : Dev nD) : (bigSep Finset.univ fun c : Fin ((K (F := F)).nCore 0) => (P X).st 0 d c)
    = iprop(((teLoc d ↦{fullShare} X.te d) ∗ (toLoc d ↦{fullShare} X.tod d) ∗ (ixLoc d ↦{fullShare} X.ix d) ∗ (wtLoc d ↦{fullShare} X.wt d))
        ∗ ouLoc d ↦{fullShare} X.ou d) := by
  refine (bigSep_tiles (fun w => tileIn X d w)).trans ?_
  rw [bigSep_sep', bigSep_sep', bigSep_sep', bigSep_sep', ← out_blocks, ← pointsTo_deal (X.te d) 31 fullShare, ← pointsTo_deal (X.tod d) 31 fullShare,
    ← pointsTo_deal (X.ix d) 31 fullShare, ← pointsTo_deal (X.wt d) 31 fullShare]

/-- What it hands back: the arrays it read, and the array of results with every block done. -/
theorem dn_imp (d : Dev nD) : (bigSep Finset.univ fun c : Fin ((K (F := F)).nCore 0) => (P X).dn 0 d c)
    ⊢ iprop(((teLoc d ↦{fullShare} X.te d) ∗ (toLoc d ↦{fullShare} X.tod d) ∗ (ixLoc d ↦{fullShare} X.ix d) ∗ (wtLoc d ↦{fullShare} X.wt d))
        ∗ ∃ f, ⌜∀ w, Done X d w f⌝ ∗ ouLoc d ↦{fullShare} f) := by
  refine (Entails.of_eq (bigSep_tiles (fun w => tileOut X d w))).trans ?_
  rw [bigSep_sep', bigSep_sep', bigSep_sep', bigSep_sep', ← pointsTo_deal (X.te d) 31 fullShare, ← pointsTo_deal (X.tod d) 31 fullShare,
    ← pointsTo_deal (X.ix d) 31 fullShare, ← pointsTo_deal (X.wt d) 31 fullShare]
  refine sep_mono_right ?_
  have : Nonempty (Buf (Elt F) (ouLoc d)) := ⟨X.ou d⟩
  refine (bigSep_exists_pi Finset.univ (fun w (f : Buf (Elt F) (ouLoc d)) => iprop(⌜Done X d w f⌝ ∗ ouLoc d ↦[block w]{fullShare} f))).trans ?_
  iintro ⟨%fs, H⟩
  ihave H1 := (bigSep_pure_sep Finset.univ (fun w => Done X d w (fs w)) (fun w => ouLoc d ↦[block w]{fullShare} fs w)) $$ H
  icases H1 with ⟨%hfs, H1⟩
  ihave H' := (pointsTo_biUnion_join (ℓ := ouLoc d) (q := fullShare) (Val := Elt F) Finset.univ block fs (fs 0) block_disjoint) $$ H1
  icases H' with ⟨%g, %hg, Hg⟩
  iexists g
  isplitr
  · ipureintro
    intro w y hy
    exact (hg w (Finset.mem_univ _) _ (mem_block w _ _ _)).trans (hfs w (Finset.mem_univ _) y hy)
  · ihave Hg' := (Entails.of_eq (congrArg (fun I => (ouLoc d ↦[I]{fullShare} g : sProp 𝕄)) block_cover)) $$ Hg
    iexact Hg'

/-! ## The launch element of the certificate's ghost state -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), bigSep_emp']
  iempintro

/-! ## The arrays, through the program -/

variable (m : (ℓ : Loc nD τ sig) → Buf (Elt F) ℓ) (ρ : Dev nD → PrngReg)

/-- The device's arrays when the call starts. -/
abbrev V1 (d : Dev nD) : Valuation τ sig (Elt F) := after preOps (fun b => m (d, b))

/-- The call's arrays when it starts. -/
abbrev XM : Arrays F where
  te d := V1 m d (Proc.devRef .tc main_arg0)
  tod d := V1 m d (Proc.devRef .tc main_arg1)
  ix d := V1 m d (Proc.devRef .tc main_v5)
  wt d := V1 m d (Proc.devRef .tc main_v7)
  ou d := V1 m d (Proc.devRef .tc main_v8)

/-- The device's arrays when the call has ended and left `f` as its results. -/
abbrev V2 (d : Dev nD) (f : Buf (Elt F) (ouLoc d)) : Valuation τ sig (Elt F) := Function.update (V1 m d) (Proc.devRef .tc main_v8) f

/-- The call's arrays. -/
abbrev five : Finset (DevRef τ sig) :=
  {Proc.devRef .tc main_arg0, Proc.devRef .tc main_arg1, Proc.devRef .tc main_v5, Proc.devRef .tc main_v7, Proc.devRef .tc main_v8}

omit [FloatOps F] in
theorem five_sub : five ⊆ Pipeline.ucRefs τ sig := by
  intro b hb
  simp only [five, Finset.mem_insert, Finset.mem_singleton] at hb
  rcases hb with rfl | rfl | rfl | rfl | rfl <;> exact Finset.mem_filter.mpr ⟨StableHlo.devRef_mem_tcRefs _, by decide⟩

omit [FloatOps F] in
/-- The call's arrays held, one by one. -/
theorem held_five (d : Dev nD) (W : Valuation τ sig (Elt F)) :
    (held (SparseCore.T d) five W : sProp 𝕄)
      = iprop((teLoc d ↦{fullShare} W (Proc.devRef .tc main_arg0)) ∗ (toLoc d ↦{fullShare} W (Proc.devRef .tc main_arg1))
        ∗ (ixLoc d ↦{fullShare} W (Proc.devRef .tc main_v5)) ∗ (wtLoc d ↦{fullShare} W (Proc.devRef .tc main_v7))
        ∗ ouLoc d ↦{fullShare} W (Proc.devRef .tc main_v8)) := by
  unfold StableHlo.held
  rw [SparseCore.bigSep_insert' (by decide), SparseCore.bigSep_insert' (by decide), SparseCore.bigSep_insert' (by decide),
    SparseCore.bigSep_insert' (by decide), bigSep_singleton]

/-- The call's arrays and the rest are the device's arrays when the call has ended. -/
theorem held_back (d : Dev nD) (f : Buf (Elt F) (ouLoc d)) :
    iprop(((teLoc d ↦{fullShare} (XM m).te d) ∗ (toLoc d ↦{fullShare} (XM m).tod d) ∗ (ixLoc d ↦{fullShare} (XM m).ix d)
        ∗ (wtLoc d ↦{fullShare} (XM m).wt d) ∗ ouLoc d ↦{fullShare} f) ∗ held (SparseCore.T d) (Pipeline.ucRefs τ sig \ five) (V1 m d))
      = (held (SparseCore.T d) (Pipeline.ucRefs τ sig) (V2 m d f) : sProp 𝕄) := by
  have h : ∀ r : Ref sig .tc, r ≠ main_v8 → V2 m d f (Proc.devRef .tc r) = V1 m d (Proc.devRef .tc r) := fun r hr =>
    Function.update_of_ne (StableHlo.devRef_ne_of_ne hr) _ _
  rw [StableHlo.held_sub_split (SparseCore.T d) five_sub (V2 m d f), held_five, h main_arg0 (by decide), h main_arg1 (by decide), h main_v5 (by decide),
    h main_v7 (by decide), show V2 m d f (Proc.devRef .tc main_v8) = f from Function.update_self _ _ _,
    StableHlo.held_congr (SparseCore.T d) (S := Pipeline.ucRefs τ sig \ five) (V := V2 m d f) (V' := V1 m d) fun b hb =>
      Function.update_of_ne (fun e => (Finset.mem_sdiff.mp hb).2 (by subst e; decide)) _ _]

/-- What the program leaves on device `d`: its arrays after the last operations, from results with every block done. -/
abbrev FIN (d : Dev nD) : sProp 𝕄 :=
  iprop(∃ f, ⌜∀ w, Done (XM m) d w f⌝ ∗ held (SparseCore.T d) (Pipeline.ucRefs τ sig) (after postOps (V2 m d f)))

set_option backward.isDefEq.respectTransparency.types false in
/-- The program on device `d`. -/
theorem hmain (κ : GSem nD τ sig → ℕ) (d : Dev nD) :
    iprop((K (F := F)).ctx EH (P (XM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (fun b => m (d, b))
    from Pipeline.unscopedBufs_held d (fun b => m (d, b))]
  iintro ⟨#Hctx, Hst, ⟨Hb, Hh, Hts, -⟩, -⟩
  iapply (StableHlo.wp_seq 𝒱 none Set.univ d (Pipeline.ucRefs τ sig) _ preOps
    (fun op h => Pipeline.sub_ucRefs op ((List.forall_iff_forall_mem.mp pre_sub) op h))
    (fun op h => (List.forall_iff_forall_mem.mp pre_fresh) op h) _) $$ [Hb Hh]
  · isplitl [Hb]; · iexact Hb
    iexact Hh
  iintro ⟨Hb, Hh⟩
  ihave Hh' := (Entails.of_eq ((StableHlo.held_sub_split (SparseCore.T d) five_sub (V1 m d)).trans
    (congrArg (fun A => iprop(A ∗ held (SparseCore.T d) (Pipeline.ucRefs τ sig \ five) (V1 m d))) (held_five d (V1 m d))))) $$ Hh
  icases Hh' with ⟨⟨Hte, Hto, Hix, Hwt, Hou⟩, Hrest⟩
  iapply (Entails.of_eq (wp_bind frame _ Set.univ _ _ _).symm)
  iapply ((K (F := F)).wp_run (D (F := F)) 𝒱 (EH := EH) (P := P (XM m)) κ d 0) $$ [Hst Hte Hto Hix Hwt Hou Hrest Hb Hts]
  isplitr; · iexact Hctx
  isplitl [Hst]; · iexact Hst
  isplitl [Hte Hto Hix Hwt Hou]
  · rw [st_eq]
    isplitr [Hou]
    · isplitl [Hte]; · iexact Hte
      isplitl [Hto]; · iexact Hto
      isplitl [Hix]; · iexact Hix
      iexact Hwt
    · iexact Hou
  iintro ⟨Hst, Hdn⟩
  ihave Hdn' := (dn_imp (XM m) d) $$ Hdn
  icases Hdn' with ⟨⟨Hte, Hto, Hix, Hwt⟩, ⟨%f, %hf, Hou⟩⟩
  ihave Hh := (Entails.of_eq (held_back m d f)) $$ [Hte Hto Hix Hwt Hou Hrest]
  · isplitr [Hrest]
    · isplitl [Hte]; · iexact Hte
      isplitl [Hto]; · iexact Hto
      isplitl [Hix]; · iexact Hix
      isplitl [Hwt]; · iexact Hwt
      iexact Hou
    · iexact Hrest
  iapply (StableHlo.wp_seq 𝒱 none Set.univ d (Pipeline.ucRefs τ sig) _ postOps
    (fun op h => Pipeline.sub_ucRefs op ((List.forall_iff_forall_mem.mp post_sub) op h))
    (fun op h => (List.forall_iff_forall_mem.mp post_fresh) op h) _) $$ [Hb Hh]
  · isplitl [Hb]; · iexact Hb
    iexact Hh
  iintro ⟨Hb, Hh⟩
  iapply (Entails.of_eq (wp_pure frame _ Set.univ _ _).symm)
  imodintro
  isplitl [Hst]; · iexact Hst
  isplitl [Hh]
  · iexists f
    isplitr
    · ipureintro; exact hf
    · iexact Hh
  isplitl [Hb]; · iexact Hb
  iexact Hts

/-! ## The run -/

/-- What is read off device `d` at the end: its arrays are those after the last operations. -/
def fq (d : Dev nD) (s' : Phys nD τ sig (Elt F)) : Prop :=
  ∃ f, (∀ w, Done (XM m) d w f) ∧ ∀ b ∈ Pipeline.ucRefs τ sig, s'.mem.mem (d, b) = after postOps (V2 m d f) b

theorem hfin (d : Dev nD) (s' : Phys nD τ sig (Elt F)) : iprop(FIN m d ∗ SI s') ⊢ (⌜fq m d s'⌝ : sProp 𝕄) := by
  iintro ⟨⟨%f, %hf, Hh⟩, HSI⟩
  have key : ∀ b ∈ Pipeline.ucRefs τ sig, (iprop(held (SparseCore.T d) (Pipeline.ucRefs τ sig) (after postOps (V2 m d f)) ∗ SI s') : sProp 𝕄)
      ⊢ ⌜s'.mem.mem (d, b) = after postOps (V2 m d f) b⌝ := by
    intro b hb
    rw [StableHlo.held_sub_split (SparseCore.T d) (Finset.singleton_subset_iff.mpr hb)]
    unfold StableHlo.held
    rw [bigSep_singleton]
    iintro ⟨⟨Hb, -⟩, HSI⟩
    ihave H := (SI_pointsTo_agree (st := s') (ℓ := (d, b)) (I := Finset.univ) (q := fullShare) (f := after postOps (V2 m d f) b)) $$ [HSI Hb]
    · isplitl [HSI] <;> iassumption
    icases H with %h
    ipureintro; exact funext fun i => h i (Finset.mem_univ i)
  have key' : (iprop(held (SparseCore.T d) (Pipeline.ucRefs τ sig) (after postOps (V2 m d f)) ∗ SI s') : sProp 𝕄)
      ⊢ ⌜∀ b ∈ Pipeline.ucRefs τ sig, s'.mem.mem (d, b) = after postOps (V2 m d f) b⌝ :=
    (forall_intro fun b => (forall_intro fun hb => key b hb).trans pure_forall.2).trans pure_forall.2
  ihave H := key' $$ [Hh HSI]
  · isplitl [Hh] <;> iassumption
  icases H with %h
  ipureintro
  exact ⟨f, hf, h⟩

/-- What the program's run ends in: some results with every block done, the arrays after the last operations from them, and
    every counter at zero. -/
def QC : PUnit × MemSt nD τ sig (Elt F) → Prop := fun r =>
  (∀ d : Dev nD, ∃ f, (∀ w, Done (XM m) d w f) ∧ ∀ b ∈ Pipeline.ucRefs τ sig, r.2.mem (d, b) = after postOps (V2 m d f) b) ∧ r.2.sem = fun _ => 0

/-- The program runs, from any memory whose list names rows of the tables. -/
theorem run_main [∀ e, Nonempty (Elt F e)] (hX : InRange (XM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XM m)) (A := ∅) facts v₀
    (fun q hq => match q with | 0 => nomatch hq)
    (fun q _ => match q with | 0 => tileObl (XM m) facts hX)
    (fun q _ => match q with | 0 => SparseCore.Cfg.VecSplit.of_plain (vecSplit (XM m)))
    m ρ main (fun _ => iprop(emp)) (FIN m) (u₀ (F := F)) (sep_elim_left.trans (hu₀ (XM m))) (hmain m ρ) (fq m) (hfin m) (QC m) (fun _ h hz => ⟨h, hz⟩)

/-- What the program leaves in an array that no operation writes: what it held. -/
theorem after_kept (d : Dev nD) (f : Buf (Elt F) (ouLoc d)) (r : Ref sig .tc) (h1 : r ∉ preW) (h2 : r ∉ postW) (h : r ≠ main_v8) :
    after postOps (V2 m d f) (Proc.devRef .tc r) = m (d, Proc.devRef .tc r) :=
  (StableHlo.after_of_writes_sub postOps _ post_writes h2).trans ((Function.update_of_ne (StableHlo.devRef_ne_of_ne h) _ _).trans
    (StableHlo.after_of_writes_sub preOps _ pre_writes h1))

end Cert.Proof.KernelIdeal

end
-- ==== Proof.IPad.lean ====
/-
  The operands of the call, from the arguments: the padded lists and weights; every listed row is a row of the tables.
-/
module

public import proofs.«01_k».proof.Proof.IRun
public import proofs.«01_k».proof.Proof.Layout
public import proofs.«01_k».proof.Proof.InTable
public import Idealize.ShloMosaic.Lib.StableHlo.Run

@[expose] public section

noncomputable section

namespace Cert.Proof.KernelIdeal

open Cert.KernelIdeal Cert.KernelIdeal.Gen

open Idealize.ShloMosaic Idealize.SL.Sem
open Idealize.ShloMosaic.StableHlo (held after)
open Cert.Proof.Acc

variable {F : FTy → Type} [FloatOps F]
variable (m : (ℓ : Loc nD τ sig) → Buf (Elt F) ℓ)

/-- The lists as the call finds them: the argument's, padded with zeros. -/
theorem ix_eq (d : Dev nD) : (after preOps (fun b => m (d, b)) (Proc.devRef .tc main_v5) : Padded.Idx → BitVec 32)
    = padded (m ((d.tc : Thread nD τ).loc main_arg2)) (broadcastInDim S24x72 ![] bcast_S_S24x72 (constantI S_ 32 0#32)) (constantI S_ 32 0#32)
        concatenates_S1800x72_S24x72_S1824x72_d0 shapeCasts_S1824x72_S32x57x72 pads_S32x57x72_S32x64x128_000_070_0560 h_S_ := by
  after_results_simp
  rfl

/-- The weights as the call finds them: the argument's, padded with zeros. -/
theorem wt_eq (d : Dev nD) : (after preOps (fun b => m (d, b)) (Proc.devRef .tc main_v7) : Padded.Idx → F .f32)
    = padded (m ((d.tc : Thread nD τ).loc main_arg3)) (broadcastInDim S24x72 ![] bcast_S_S24x72 (constant S_ .f32 0x00000000#32)) (sitofp .f32 (constantI S_ 32 0#32))
        concatenates_S1800x72_S24x72_S1824x72_d0 shapeCasts_S1824x72_S32x57x72 pads_S32x57x72_S32x64x128_000_070_0560 h_S_ := by
  after_results_simp
  rfl

/-- Every row number that the call finds is a row of the tables, if those of the argument are. -/
theorem inRange (h : ∀ (d : Dev nD) (i : Rows.Idx), BitVec.toNat (m ((d.tc : Thread nD τ).loc main_arg2) i) < 98304) : InRange (XM m) := by
  intro d x
  show BitVec.toNat ((after preOps (fun b => m (d, b)) (Proc.devRef .tc main_v5) : Padded.Idx → BitVec 32) x) < 98304
  rw [ix_eq]
  exact padded_forall _ _ _ _ _ _ _ (p := fun v : BitVec 32 => v.toNat < 98304) (h d) (fun _ => show (0#32).toNat < 98304 by decide)
    (fun _ => show (0#32).toNat < 98304 by decide) x

/-- The program leaves its arguments as they were. -/
theorem args_kept {r : PUnit × MemSt nD τ sig (Elt F)} (h : QC m r) (d : Dev nD) (b : Ref sig .tc) (h1 : b ∉ preW) (h2 : b ∉ postW)
    (h3 : b ≠ main_v8) (h4 : ¬ (Proc.devRef .tc b : DevRef τ sig).isScoped) :
    r.2.mem ((d.tc : Thread nD τ).loc b) = m ((d.tc : Thread nD τ).loc b) := by
  obtain ⟨f, -, hf⟩ := h.1 d
  exact (hf (Proc.devRef .tc b) (Finset.mem_filter.mpr ⟨StableHlo.devRef_mem_tcRefs b, h4⟩)).trans (after_kept m d f b h1 h2 h3)

end Cert.Proof.KernelIdeal

end
-- ==== Proof.IFrame.lean ====
/-
  The program's frame: it runs to its end from any arguments whose lists name rows of the tables, leaves its arguments as
  they were and every counter at zero.
-/
module

public import proofs.«01_k».proof.Defs
public import proofs.«01_k».proof.Proof.IPad

@[expose] public section

noncomputable section

namespace Cert.Proof.KernelIdeal

open Cert.KernelIdeal Cert.KernelIdeal.Gen

open Idealize.ShloMosaic Idealize.SL.Sem
open Cert.Proof.Acc

/-- The precondition puts every listed row number in the tables. -/
theorem rows_of_pre (m : (ℓ : Loc nD τ sig) → Buf (Elt Ideal) ℓ) (h : Cert.Pre_KernelIdeal m) : InRange (XM m) :=
  inRange m fun d i => in_table _ _ _ _ _ _ _ _ _ _ _ (h d) i

/-- The program's arguments end as they were. -/
theorem arguments (m : (ℓ : Loc nD τ sig) → Buf (Elt Ideal) ℓ) {r : PUnit × MemSt nD τ sig (Elt Ideal)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨args_kept m h c main_arg0 (by decide) (by decide) (by decide) (by decide),
    args_kept m h c main_arg1 (by decide) (by decide) (by decide) (by decide),
    args_kept m h c main_arg2 (by decide) (by decide) (by decide) (by decide),
    args_kept m h c main_arg3 (by decide) (by decide) (by decide) (by decide),
    args_kept m h c main_arg4 (by decide) (by decide) (by decide) (by decide),
    args_kept m h c main_arg5 (by decide) (by decide) (by decide) (by decide),
    args_kept m h c main_arg6 (by decide) (by decide) (by decide) (by decide),
    args_kept m h c main_arg7 (by decide) (by decide) (by decide) (by decide),
    args_kept m h c main_arg8 (by decide) (by decide) (by decide) (by decide),
    args_kept m h c main_arg9 (by decide) (by decide) (by decide) (by decide),
    args_kept m h c main_arg10 (by decide) (by decide) (by decide) (by decide)⟩

/-- The frame. -/
theorem frame : Cert.quiescent_KernelIdeal := fun m ρ hpre =>
  (θ_run Cert.KernelIdeal.defs _ _).mono (fun _ h => ⟨fun c => arguments m h c, h.2⟩) (run_main (F := Ideal) m ρ (rows_of_pre m hpre))

end Cert.Proof.KernelIdeal

end
-- ==== Proof.Sums.lean ====
/-
  The two spellings of the weighted sum, at the extended reals: the rows accumulated one at a time, each from its own half of
  the table, and the rows of the whole table gathered, weighted and reduced. Both are the sum over the listed rows.
-/
module

public import proofs.«01_k».proof.Proof.Layout
public import proofs.«01_k».proof.Proof.Stores
public import Idealize.ShloMosaic.Lib.Pointwise.Reduce

@[expose] public section

noncomputable section

namespace Cert.Proof.Acc

open Idealize.ShloMosaic

abbrev Half : Shape := ⟨2, ![98304, 128]⟩
abbrev Table : Shape := ⟨2, ![98304, 256]⟩
abbrev Lists : Shape := ⟨3, ![1800, 72, 1]⟩
abbrev Got : Shape := ⟨3, ![1800, 72, 256]⟩
abbrev Scalar0 : Shape := ⟨0, ![]⟩

/-- What has been accumulated after `n` steps is the sum of the first `n` weighted rows. -/
theorem accv_sum (w : ℕ → Ideal .f32) (row : ℕ → FVec Ideal L16 .f32) (n : ℕ) (x : L16.Idx) :
    accv w row n x = ((∑ k ∈ Finset.range n, (row k x : EReal) * (w k : EReal) : EReal) : Ideal .f32) := by
  induction n with
  | zero => exact Ideal.ofBits_zero_f32
  | succ n ih =>
    rw [Finset.sum_range_succ, ← ih, mul_comm (row n x : EReal)]
    rfl

/-- The half of the table that holds channel half `h`. -/
abbrev half {α : Type} (te tod : Half.Idx → α) (h : Fin 2) : Half.Idx → α := if h.val = 0 then te else tod

/-- A subcore's result for query `q`: the listed rows' entries, each times its weight, summed. -/
theorem comb_sum (W : (⟨2, ![64, 128]⟩ : Shape).Idx → Ideal .f32) (te tod : Half.Idx → Ideal .f32)
    (I : (⟨2, ![64, 128]⟩ : Shape).Idx → BitVec 32) (q : Fin 64) (h : Fin 2) (l : Fin 128) :
    comb W te tod I (ValueIdx.ix3 q h l)
      = ((∑ k : Fin 72, (half te tod h (ValueIdx.ix2 (Fin.ofNat 98304 (I (ValueIdx.ix2 q ⟨k.val, by omega⟩)).toNat) l) : EReal)
          * (W (ValueIdx.ix2 q ⟨k.val, by omega⟩) : EReal) : EReal) : Ideal .f32) := by
  unfold comb wsum
  rw [accv_sum, Finset.sum_range]
  have hl := l.isLt
  have hq := q.isLt
  refine Finset.sum_congr rfl fun k _ => ?_
  have hk := k.isLt
  have e1 : (Fin.ofNat 64 q.val) = q := Fin.ext (Nat.mod_eq_of_lt hq)
  have e2 : (Fin.ofNat 128 k.val) = (⟨k.val, by omega⟩ : Fin 128) := Fin.ext (Nat.mod_eq_of_lt (by omega))
  have e3 : (Fin.ofNat 72 k.val) = k := Fin.ext (Nat.mod_eq_of_lt hk)
  have e4 : (Fin.ofNat 128 (Fin.ofNat 128 (16 * (l.val / 16) + (Fin.ofNat 16 l.val).val)).val) = l := by
    refine Fin.ext ?_
    show (16 * (l.val / 16) + l.val % 16) % 128 % 128 = l.val
    omega
  refine congrArg₂ (· * ·) ?_ ?_
  · show half te tod h (ValueIdx.ix2 (Fin.ofNat 98304 (I (ValueIdx.ix2 (Fin.ofNat 64 q.val) (Fin.ofNat 128 (Fin.ofNat 72 k.val).val))).toNat)
      (Fin.ofNat 128 (Fin.ofNat 128 (16 * (l.val / 16) + (Fin.ofNat 16 l.val).val)).val)) = _
    rw [e4, e3, e2, e1]
  · show W (ValueIdx.ix2 (Fin.ofNat 64 q.val) (Fin.ofNat 128 k.val)) = _
    rw [e2, e1]

/-- Whole rows of a table, one for every number of a two-axis list of row numbers. -/
abbrev takeRows (wf : GatherDims.WF Table Lists Got [2] [0] [] [0] [] 2 ![1, 256]) : GatherDims Table Lists Got where
  offsetDims := [2]
  collapsedSliceDims := [0]
  operandBatchingDims := []
  startIndicesBatchingDims := []
  startIndexMap := [0]
  indexVectorDim := 2
  sliceSizes := ![1, 256]
  wf := wf

/-- The row gathered for a number that is a row of the table is that row. -/
theorem takeRows_apply {α : Type} (wf : GatherDims.WF Table Lists Got [2] [0] [] [0] [] 2 ![1, 256]) (x : Table.Idx → α) (idx : IVec Lists 32)
    (n : Fin 1800) (k : Fin 72) (c : Fin 256) (hr : (idx (ValueIdx.ix3 n k 0)).toNat < 98304) :
    Host.gather (takeRows wf) x idx (ValueIdx.ix3 n k c) = x (ValueIdx.ix2 ⟨(idx (ValueIdx.ix3 n k 0)).toNat, hr⟩ c) := by
  unfold Host.gather
  refine congrArg x (funext fun a => Fin.ext ?_)
  match a with
  | 0 =>
    show (takeRows wf).start (ValueIdx.ix3 n k c) idx 0 + (takeRows wf).batchCoord (ValueIdx.ix3 n k c) 0 + (takeRows wf).offCoord (ValueIdx.ix3 n k c) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (takeRows wf).startIndexMap from List.mem_singleton.mpr rfl)]
    have hs : (takeRows wf).siIdx (ValueIdx.ix3 n k c) ⟨List.idxOf (0 : Fin 2) (takeRows wf).startIndexMap,
        List.idxOf_lt_length_iff.2 (List.mem_singleton.mpr rfl)⟩ = ValueIdx.ix3 n k 0 := by
      funext b
      refine Fin.ext ?_
      match b with
      | 0 => rfl
      | 1 => rfl
      | 2 => rfl
    rw [hs, BitVec.toInt_eq_toNat_of_lt (by omega)]
    show min ((idx (ValueIdx.ix3 n k 0)).toNat : ℤ).toNat 98303 + 0 + 0 = (idx (ValueIdx.ix3 n k 0)).toNat
    omega
  | 1 =>
    show (takeRows wf).start (ValueIdx.ix3 n k c) idx 1 + (takeRows wf).batchCoord (ValueIdx.ix3 n k c) 1 + (takeRows wf).offCoord (ValueIdx.ix3 n k c) 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    show 0 + 0 + c.val = c.val
    omega

/-- Both halves side by side: channel `128 h + l` is channel `l` of half `h`. -/
theorem table_at {α : Type} (te tod : Half.Idx → α) (hc : Shape.Concatenates [Half, Half] Table 1) (r : Fin 98304) (c : Fin 256) (h : Fin 2) (l : Fin 128)
    (hl : c.val = 128 * h.val + l.val) :
    concatenate Table 1 [⟨Half, te⟩, ⟨Half, tod⟩] hc (ValueIdx.ix2 r c) = half te tod h (ValueIdx.ix2 r l) := by
  have hh := h.isLt
  by_cases h0 : h.val = 0
  · rw [half, if_pos h0]
    refine concatenate_pair_apply_left 1 te tod hc _ rfl (ValueIdx.ix2 r l) fun b => ?_
    match b with
    | 0 => rfl
    | 1 => show l.val = c.val; omega
  · rw [half, if_neg h0]
    refine concatenate_pair_apply_right 1 te tod hc _ rfl rfl (ValueIdx.ix2 r l) (fun b hb => ?_) ?_
    · match b with
      | 0 => rfl
      | 1 => exact absurd rfl hb
    · show l.val + 128 = c.val; omega

/-- The rows of the whole table gathered, weighted and reduced, as the reference has them. -/
abbrev weighed (te tod : Half.Idx → Ideal .f32) (ix : Rows.Idx → BitVec 32) (wt : Rows.Idx → Ideal .f32)
    (wf : GatherDims.WF Table Lists Got [2] [0] [] [0] [] 2 ![1, 256]) (hc : Shape.Concatenates [Half, Half] Table 1)
    (hb1 : Rows.BroadcastsInDim Lists ![0, 1]) (hb2 : Lists.BroadcastsInDim Got ![0, 1, 2]) (hr : Got.ReducesTo [1] Res) (hu : 0 < Scalar0.numel)
    (hs : Res.ShapeCasts Out) : Out.Idx → Ideal .f32 :=
  shapeCast Out (Host.reduceAdd (F := Ideal) (φ := .f32) (mulf (F := Ideal) (φ := .f32)
    (Host.gather (takeRows wf) (concatenate Table 1 [⟨Half, te⟩, ⟨Half, tod⟩] hc) (broadcastInDim Lists ![0, 1] hb1 ix))
    (broadcastInDim Got ![0, 1, 2] hb2 (broadcastInDim Lists ![0, 1] hb1 wt))) (constant (F := Ideal) Scalar0 .f32 0x00000000#32) hr hu) hs

/-- They are the listed rows' entries, each times its weight, summed. -/
theorem weighed_sum (te tod : Half.Idx → Ideal .f32) (ix : Rows.Idx → BitVec 32) (wt : Rows.Idx → Ideal .f32)
    (wf : GatherDims.WF Table Lists Got [2] [0] [] [0] [] 2 ![1, 256]) (hc : Shape.Concatenates [Half, Half] Table 1)
    (hb1 : Rows.BroadcastsInDim Lists ![0, 1]) (hb2 : Lists.BroadcastsInDim Got ![0, 1, 2]) (hr : Got.ReducesTo [1] Res) (hu : 0 < Scalar0.numel)
    (hs : Res.ShapeCasts Out) (hix : ∀ x, (ix x).toNat < 98304) (i : Fin 2) (r : Fin 900) (c : Fin 256) (n : Fin 1800) (h : Fin 2) (l : Fin 128)
    (hn : n.val = 900 * i.val + r.val) (hl : c.val = 128 * h.val + l.val) :
    weighed te tod ix wt wf hc hb1 hb2 hr hu hs (ValueIdx.ix3 i r c)
      = ((∑ k : Fin 72, (half te tod h (ValueIdx.ix2 ⟨(ix (ValueIdx.ix2 n k)).toNat, hix _⟩ l) : EReal) * (wt (ValueIdx.ix2 n k) : EReal) : EReal) : Ideal .f32) := by
  refine (shapeCast_apply _ hs _ (ValueIdx.ix2 n c : Res.Idx) ?_).trans ?_
  · rw [Shape.rowMajor_val_two, Shape.rowMajor_val_three]
    show n.val * 256 + c.val = (i.val * 900 + r.val) * 256 + c.val
    rw [hn, Nat.mul_comm 900]
  have hbx : ∀ k : Fin 72, ∀ {α : Type} (v : Rows.Idx → α), broadcastInDim Lists ![0, 1] hb1 v (ValueIdx.ix3 n k 0) = v (ValueIdx.ix2 n k) := fun k _ v => by
    refine congrArg v (funext fun a => Fin.ext ?_)
    match a with
    | 0 => rfl
    | 1 => rfl
  rw [Host.reduceAdd_apply, Ideal.hostReduceAdd_def, Ideal.hostReduceAdd_r3_a1]
  refine (congrArg₂ (· + ·) Ideal.ofBits_zero_f32 (Finset.sum_congr rfl fun k _ => ?_)).trans (zero_add _)
  refine congrArg₂ (· * ·) ?_ ?_
  · refine (takeRows_apply wf _ _ n k c (by rw [hbx]; exact hix _)).trans ((table_at te tod hc _ c h l hl).trans ?_)
    refine congrArg (fun v => half te tod h (ValueIdx.ix2 v l)) (Fin.ext ?_)
    exact congrArg BitVec.toNat (hbx k ix)
  · refine congrArg wt (funext fun a => Fin.ext ?_)
    match a with
    | 0 => rfl
    | 1 => rfl

end Cert.Proof.Acc

end
-- ==== Proof.IValue.lean ====
/-
  The program's result, from its arguments: the call's results in order, projected, and the positional encoding added; at the
  extended reals the call's results are the rows of the whole table gathered, weighted and reduced.
-/
module

public import proofs.«01_k».proof.Proof.IPad
public import proofs.«01_k».proof.Proof.Sums
public import proofs.«01_k».proof.Proof.Gen.ReferenceIdeal

@[expose] public section

noncomputable section

namespace Cert.Proof.KernelIdeal

open Cert.KernelIdeal Cert.KernelIdeal.Gen

open Idealize.ShloMosaic Idealize.SL.Sem
open Idealize.ShloMosaic.StableHlo (after)
open Cert.Proof.Acc

variable {F : FTy → Type} [FloatOps F]

/-- The call's results in the order of the queries. -/
abbrev inOrder (f : Blocks.Idx → F .f32) : Out.Idx → F .f32 :=
  shapeCast S2x900x256 (extractStridedSlice S1800x256 ![0, 0] (shapeCast S1824x256 (extractStridedSlice S32x57x256 ![0, 0, 0]
    (shapeCast S32x64x256 f shapeCasts_S32x64x2x128_S32x64x256) slices_S32x64x256_S32x57x256_0_0_0) shapeCasts_S32x57x256_S1824x256)
    slices_S1824x256_S1800x256_0_0) shapeCasts_S1800x256_S2x900x256

/-- A product with the transpose of `W`, with `b` added. -/
abbrev affine (v : Out.Idx → F .f32) (W : S256x256.Idx → F .f32) (b : S256.Idx → F .f32) : Out.Idx → F .f32 :=
  addf (F := F) (φ := .f32) (Host.dotGeneral dot_S2x900x256_S256x256_S2x900x256_2_0_01_1_n_n none v (transpose S256x256 [1, 0] W transposes_S256x256_S256x256_1_0))
    (broadcastInDim S2x900x256 ![0, 1, 2] bcast_S1x1x256_S2x900x256_0_1_2 (broadcastInDim S1x1x256 ![2] bcast_S256_S1x1x256_2 b))

/-- The points held to between zero and one. -/
abbrev clipped (p : S2x900x3.Idx → F .f32) : S2x900x3.Idx → F .f32 :=
  minimumf (F := F) (φ := .f32) (broadcastInDim S2x900x3 ![] bcast_S_S2x900x3 (constant S_ .f32 0x3F800000#32))
    (maximumf (F := F) (φ := .f32) (broadcastInDim S2x900x3 ![] bcast_S_S2x900x3 (constant S_ .f32 0x00000000#32)) p)

/-- Held to at least the least point. -/
abbrev raised (p : S2x900x3.Idx → F .f32) : S2x900x3.Idx → F .f32 :=
  maximumf (F := F) (φ := .f32) (broadcastInDim S2x900x3 ![] bcast_S_S2x900x3 (constant S_ .f32 0x3727C5AC#32)) p

/-- The inverse of the sigmoid at the points. -/
abbrev logit (p : S2x900x3.Idx → F .f32) : S2x900x3.Idx → F .f32 :=
  Host.log (F := F) (φ := .f32) (Host.divf (F := F) (φ := .f32) (raised (clipped p))
    (raised (subf (F := F) (φ := .f32) (broadcastInDim S2x900x3 ![] bcast_S_S2x900x3 (constant S_ .f32 0x3F800000#32)) (clipped p))))

/-- The positional encoding's hidden layer. -/
abbrev hidden (p : S2x900x3.Idx → F .f32) (W : S256x3.Idx → F .f32) (b : S256.Idx → F .f32) : Out.Idx → F .f32 :=
  maximumf (F := F) (φ := .f32) (addf (F := F) (φ := .f32)
      (Host.dotGeneral dot_S2x900x3_S3x256_S2x900x256_2_0_01_1_n_n none (logit p) (transpose S3x256 [1, 0] W transposes_S256x3_S3x256_1_0))
      (broadcastInDim S2x900x256 ![0, 1, 2] bcast_S1x1x256_S2x900x256_0_1_2 (broadcastInDim S1x1x256 ![2] bcast_S256_S1x1x256_2 b)))
    (broadcastInDim S2x900x256 ![] bcast_S_S2x900x256 (constant S_ .f32 0x00000000#32))

/-- The result, from the queries' weighted sums. -/
abbrev finish (v : Out.Idx → F .f32) (p : S2x900x3.Idx → F .f32) (Wo : S256x256.Idx → F .f32) (bo : S256.Idx → F .f32) (W1 : S256x3.Idx → F .f32)
    (b1 : S256.Idx → F .f32) (W2 : S256x256.Idx → F .f32) (b2 : S256.Idx → F .f32) : Out.Idx → F .f32 :=
  addf (F := F) (φ := .f32) (affine v Wo bo) (affine (hidden p W1 b1) W2 b2)

/-- The host operations after the call compute it. -/
theorem post_value (V : Valuation τ sig (Elt F)) : (after postOps V (Proc.devRef .tc main_v37) : Out.Idx → F .f32)
    = finish (inOrder (V (Proc.devRef .tc main_v8))) (V (Proc.devRef .tc main_arg4)) (V (Proc.devRef .tc main_arg5)) (V (Proc.devRef .tc main_arg6))
        (V (Proc.devRef .tc main_arg7)) (V (Proc.devRef .tc main_arg8)) (V (Proc.devRef .tc main_arg9)) (V (Proc.devRef .tc main_arg10)) := by
  simp only [postOps, StableHlo.TRef.binary, StableHlo.TRef.nullary, StableHlo.TRef.unary, StableHlo.TRef.toBuf, StableHlo.TRef.ofBuf, cast_eq]
  after_results_simp
  rfl

variable (m : (ℓ : Loc nD τ sig) → Buf (Elt Ideal) ℓ)

/-- The tables as the call finds them are the arguments'. -/
theorem tables_eq (d : Dev nD) : (XM m).te d = m ((d.tc : Thread nD τ).loc main_arg0) ∧ (XM m).tod d = m ((d.tc : Thread nD τ).loc main_arg1) :=
  ⟨StableHlo.after_of_writes_sub preOps (fun b => m (d, b)) pre_writes (show main_arg0 ∉ preW by decide),
    StableHlo.after_of_writes_sub preOps (fun b => m (d, b)) pre_writes (show main_arg1 ∉ preW by decide)⟩

/-- The call's results, in order, are the listed rows gathered, weighted and reduced. -/
theorem results_eq (d : Dev nD) (f : Buf (Elt Ideal) (ouLoc d)) (hf : ∀ w, Done (XM m) d w f)
    (h : ∀ i : Rows.Idx, BitVec.toNat (m ((d.tc : Thread nD τ).loc main_arg2) i) < 98304)
    (wf : GatherDims.WF Table Lists Got [2] [0] [] [0] [] 2 ![1, 256]) (hc : Shape.Concatenates [Half, Half] Table 1)
    (hb1 : Rows.BroadcastsInDim Lists ![0, 1]) (hb2 : Lists.BroadcastsInDim Got ![0, 1, 2]) (hr : Got.ReducesTo [1] Res) (hu : 0 < Scalar0.numel)
    (hs : Res.ShapeCasts Out) :
    inOrder (F := Ideal) f = weighed (m ((d.tc : Thread nD τ).loc main_arg0)) (m ((d.tc : Thread nD τ).loc main_arg1))
      (m ((d.tc : Thread nD τ).loc main_arg2)) (m ((d.tc : Thread nD τ).loc main_arg3)) wf hc hb1 hb2 hr hu hs := by
  funext x
  obtain ⟨i, r, c, rfl⟩ : ∃ i r c, x = (ValueIdx.ix3 i r c : Out.Idx) := ⟨_, _, _, ValueIdx.eq_ix3 x⟩
  have hi := i.isLt
  have hr' := r.isLt
  have hc' := c.isLt
  obtain ⟨n, hn⟩ : ∃ n : Fin 1800, n.val = 900 * i.val + r.val := ⟨⟨_, by omega⟩, rfl⟩
  obtain ⟨w, hw⟩ : ∃ w : Fin 32, w.val = n.val / 57 := ⟨⟨n.val / 57, by omega⟩, rfl⟩
  obtain ⟨q, hq⟩ : ∃ q : Fin 64, q.val = n.val % 57 := ⟨⟨n.val % 57, by omega⟩, rfl⟩
  obtain ⟨h', hh⟩ : ∃ h' : Fin 2, h'.val = c.val / 128 := ⟨⟨c.val / 128, by omega⟩, rfl⟩
  obtain ⟨l, hl⟩ : ∃ l : Fin 128, l.val = c.val % 128 := ⟨⟨c.val % 128, by omega⟩, rfl⟩
  have ew : Fin.ofNat 32 w.val = w := Fin.ext (Nat.mod_eq_of_lt w.isLt)
  have hk : ∀ k : Fin 72, (⟨k.val, by omega⟩ : Fin 128).val < 72 := fun k => k.isLt
  rw [weighed_sum _ _ _ _ wf hc hb1 hb2 hr hu hs h i r c n h' l hn (by omega)]
  refine (results_at f _ _ _ _ _ i r c w q h' l (by omega) (by omega) (by omega)).trans ?_
  refine (hf w (ValueIdx.ix3 q h' l) (by show q.val < 57; omega)).trans ((comb_sum _ _ _ _ q h' l).trans ?_)
  rw [(tables_eq m d).1, (tables_eq m d).2]
  refine Finset.sum_congr rfl fun k _ => ?_
  have ei : row3 ((XM m).ix d) w.val (ValueIdx.ix2 q ⟨k.val, by omega⟩) = m ((d.tc : Thread nD τ).loc main_arg2) (ValueIdx.ix2 n k) := by
    refine (congrFun (ix_eq m d) _).trans ?_
    show padded _ _ _ _ _ _ _ (ValueIdx.ix3 (Fin.ofNat 32 w.val) q ⟨k.val, _⟩) = _
    rw [ew]
    exact padded_at _ _ _ _ _ _ _ w q ⟨k.val, by omega⟩ (by omega) (hk k) n (by omega)
  have et : row3 ((XM m).wt d) w.val (ValueIdx.ix2 q ⟨k.val, by omega⟩) = m ((d.tc : Thread nD τ).loc main_arg3) (ValueIdx.ix2 n k) := by
    refine (congrFun (wt_eq m d) _).trans ?_
    show padded _ _ _ _ _ _ _ (ValueIdx.ix3 (Fin.ofNat 32 w.val) q ⟨k.val, _⟩) = _
    rw [ew]
    exact padded_at _ _ _ _ _ _ _ w q ⟨k.val, by omega⟩ (by omega) (hk k) n (by omega)
  rw [ei, et]
  refine congrArg (fun v => (half _ _ h' (ValueIdx.ix2 v l) : EReal) * _) (Fin.ext ?_)
  exact Nat.mod_eq_of_lt (h _)

end Cert.Proof.KernelIdeal

end
-- ==== Proof.Alg.lean ====
/-
  The program and the reference: at the extended reals, from equal arguments, they end with equal results.
-/
module

public import proofs.«01_k».proof.Defs
public import proofs.«01_k».proof.Proof.IFrame
public import proofs.«01_k».proof.Proof.IValue
public import proofs.«01_k».proof.Proof.Gen.ReferenceIdeal.Run

@[expose] public section

noncomputable section

namespace Cert.Proof.KernelIdeal

open Cert.KernelIdeal Cert.KernelIdeal.Gen

open Idealize.ShloMosaic Idealize.SL.Sem
open Idealize.ShloMosaic.StableHlo (after)
open Cert.Proof.Acc

variable (m : (ℓ : Loc nD τ sig) → Buf (Elt Ideal) ℓ)

/-- The reference's result, from the program's arguments. -/
abbrev wanted (c : Dev nD) : Out.Idx → Ideal .f32 :=
  finish (F := Ideal) (weighed (m ((c.tc : Thread nD τ).loc main_arg0)) (m ((c.tc : Thread nD τ).loc main_arg1))
      (m ((c.tc : Thread nD τ).loc main_arg2)) (m ((c.tc : Thread nD τ).loc main_arg3))
      Cert.ReferenceIdeal.Facts₀.gather_S98304x256_S1800x72x1_S1800x72x256_2_0_n_n_0_2_1256_wf
      Cert.ReferenceIdeal.Facts₀.concatenates_S98304x128_S98304x128_S98304x256_d1
      Cert.ReferenceIdeal.Facts₀.bcast_S1800x72_S1800x72x1_0_1 Cert.ReferenceIdeal.Facts₀.bcast_S1800x72x1_S1800x72x256_0_1_2
      Cert.ReferenceIdeal.Facts₀.reducesTo_S1800x72x256_S1800x256_d1 Cert.ReferenceIdeal.Facts₀.h_S_ Cert.ReferenceIdeal.Facts₀.shapeCasts_S1800x256_S2x900x256)
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10))

/-- An argument as the operations after the call find it is the argument. -/
theorem arg_after_call (d : Dev nD) (f : Buf (Elt Ideal) (ouLoc d)) (r : Ref sig .tc) (h1 : r ∉ preW) (h : r ≠ main_v8) :
    V2 m d f (Proc.devRef .tc r) = m ((d.tc : Thread nD τ).loc r) :=
  (Function.update_of_ne (StableHlo.devRef_ne_of_ne h) _ _).trans (StableHlo.after_of_writes_sub preOps _ pre_writes h1)

/-- The program ends with the reference's result. -/
theorem result_eq (h : ∀ (d : Dev nD) (i : Rows.Idx), BitVec.toNat (m ((d.tc : Thread nD τ).loc main_arg2) i) < 98304)
    {r : PUnit × MemSt nD τ sig (Elt Ideal)} (hr : QC m r) (c : Dev nD) : r.2.mem ((c.tc : Thread nD τ).loc main_v37) = wanted m c := by
  obtain ⟨f, hf, hm⟩ := hr.1 c
  refine (hm (Proc.devRef .tc main_v37) (Finset.mem_filter.mpr ⟨StableHlo.devRef_mem_tcRefs main_v37, by decide⟩)).trans ((post_value _).trans ?_)
  have e8 : V2 m c f (Proc.devRef .tc main_v8) = f := Function.update_self ..
  rw [e8, results_eq m c f hf (h c), arg_after_call m c f main_arg4 (by decide) (by decide), arg_after_call m c f main_arg5 (by decide) (by decide),
    arg_after_call m c f main_arg6 (by decide) (by decide), arg_after_call m c f main_arg7 (by decide) (by decide),
    arg_after_call m c f main_arg8 (by decide) (by decide), arg_after_call m c f main_arg9 (by decide) (by decide),
    arg_after_call m c f main_arg10 (by decide) (by decide)]

/-- From memories that agree on the arguments the two programs end with equal results and their arguments as they were. -/
theorem algebraic : Cert.algebraic_KernelIdeal_ReferenceIdeal := fun m g m' g' hpre hagree => by
  have hrows : ∀ (d : Dev nD) (i : Rows.Idx), BitVec.toNat (m ((d.tc : Thread nD τ).loc main_arg2) i) < 98304 :=
    fun d i => in_table _ _ _ _ _ _ _ _ _ _ _ (hpre d) i
  refine ⟨wanted m, (θ_run Cert.KernelIdeal.defs _ _).mono (fun _ h c => ⟨result_eq m hrows h c, arguments m h c⟩)
    (run_main (F := Ideal) m g (rows_of_pre m hpre)), (θ_run Cert.ReferenceIdeal.defs _ _).mono (fun r h c => ⟨?_, (h c).2⟩)
    (Cert.ReferenceIdeal.Value.run (F := Ideal) m' g')⟩
  obtain ⟨a0, a1, a2, a3, a4, a5, a6, a7, a8, a9, a10⟩ := hagree c
  refine (h c).1.trans ?_
  rw [a0, a1, a2, a3, a4, a5, a6, a7, a8, a9, a10]
  rfl

end Cert.Proof.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_table
public import proofs.«01_k».proof.Proof.KFrame
public import proofs.«01_k».proof.Proof.IFrame
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The reference's frame, whatever its arguments. -/
theorem reference_frame : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Every claim. -/
theorem claim : Cert.Claim :=
  ⟨Cert.Kernel.Gen.facts, Cert.KernelIdeal.Gen.facts, Cert.ReferenceIdeal.Gen.facts, Cert.Pre_in_table.Gen.facts,
    Cert.Proof.Kernel.frame, Cert.Proof.KernelIdeal.frame, reference_frame, fun m g _ => reference_frame m g trivial, trivial,
    Cert.Proof.KernelIdeal.algebraic⟩

end Cert.Proof

end
